-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S8x32x512 : Shape := ⟨3, ![8, 32, 512]⟩
abbrev S256x512 : Shape := ⟨2, ![256, 512]⟩
abbrev S8 : Shape := ⟨1, ![8]⟩
abbrev S_ : Shape := ⟨0, ![]⟩
abbrev S1 : Shape := ⟨1, ![1]⟩
abbrev S1x32x512 : Shape := ⟨3, ![1, 32, 512]⟩
abbrev S32x512 : Shape := ⟨2, ![32, 512]⟩
abbrev S1x256x512 : Shape := ⟨3, ![1, 256, 512]⟩
abbrev S32 : Shape := ⟨1, ![32]⟩
abbrev S32x1 : Shape := ⟨2, ![32, 1]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S512x512, .f32⟩
  | .local _ .vmem, ⟨0, _⟩ => ⟨S1x512x512, .f32⟩
  | .local _ .vmem, ⟨1, _⟩ => ⟨S512x512, .f32⟩
  | .local _ .vmem, ⟨2, _⟩ => ⟨S512, .f32⟩
  | .local _ .vmem, ⟨3, _⟩ => ⟨S512x512, .f32⟩
  | .local _ .vmem, ⟨4, _⟩ => ⟨S8x32x512, .f32⟩
  | .local _ .vmem, ⟨5, _⟩ => ⟨S256x512, .f32⟩
  | .local _ .vmem, ⟨6, _⟩ => ⟨S8x32x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_14 : BitVec 32) : Fin 3 → Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v25 : BitVec 32 := Scalar.addi v24 c0_i32_14
  let c0_i32_25 : BitVec 32 := 0#32
  ![0, v25.toNat, 0]
def k0_dev3 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v26 : BitVec 32 := Scalar.muli v2 c8_i32_19
  let v27 : BitVec 32 := Scalar.addi c0_i32_20 v26
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_21 : BitVec 32 := 4#32
  let v28 : BitVec 32 := Scalar.muli v9 c4_i32_21
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v30 : BitVec 32 := Scalar.muli v8 c1_i32_22
  let v31 : BitVec 32 := Scalar.addi v29 v30
  v31.toNat
def k0_dev4 (d0 : Dev nD) : Nat :=
  let c0_i32_31 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_30 : BitVec 32 := 8#32
  let v41 : BitVec 32 := Scalar.muli v2 c8_i32_30
  let v42 : BitVec 32 := Scalar.addi c0_i32_31 v41
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_32 : BitVec 32 := 4#32
  let v43 : BitVec 32 := Scalar.muli v9 c4_i32_32
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v45 : BitVec 32 := Scalar.muli v8 c1_i32_33
  let v46 : BitVec 32 := Scalar.addi v44 v45
  v46.toNat
def k0_dev5 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v56 : BitVec 32 := Scalar.muli v2 c8_i32_41
  let v57 : BitVec 32 := Scalar.addi c0_i32_42 v56
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_43 : BitVec 32 := 4#32
  let v58 : BitVec 32 := Scalar.muli v9 c4_i32_43
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v60 : BitVec 32 := Scalar.muli v8 c1_i32_44
  let v61 : BitVec 32 := Scalar.addi v59 v60
  v61.toNat
def k0_dev6 (d0 : Dev nD) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_51 : BitVec 32 := 8#32
  let v71 : BitVec 32 := Scalar.muli v2 c8_i32_51
  let v72 : BitVec 32 := Scalar.addi c0_i32_52 v71
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_53 : BitVec 32 := 4#32
  let v73 : BitVec 32 := Scalar.muli v9 c4_i32_53
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v75 : BitVec 32 := Scalar.muli v8 c1_i32_54
  let v76 : BitVec 32 := Scalar.addi v74 v75
  v76.toNat
def k0_dev7 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_62 : BitVec 32 := 8#32
  let v86 : BitVec 32 := Scalar.muli v2 c8_i32_62
  let v87 : BitVec 32 := Scalar.addi c0_i32_63 v86
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_64 : BitVec 32 := 4#32
  let v88 : BitVec 32 := Scalar.muli v9 c4_i32_64
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v90 : BitVec 32 := Scalar.muli v8 c1_i32_65
  let v91 : BitVec 32 := Scalar.addi v89 v90
  v91.toNat
def k0_dev8 (d0 : Dev nD) : Nat :=
  let c0_i32_73 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_72 : BitVec 32 := 8#32
  let v101 : BitVec 32 := Scalar.muli v2 c8_i32_72
  let v102 : BitVec 32 := Scalar.addi c0_i32_73 v101
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_74 : BitVec 32 := 4#32
  let v103 : BitVec 32 := Scalar.muli v9 c4_i32_74
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v105 : BitVec 32 := Scalar.muli v8 c1_i32_75
  let v106 : BitVec 32 := Scalar.addi v104 v105
  v106.toNat
def k0_dev9 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v116 : BitVec 32 := Scalar.muli v2 c8_i32_82
  let v117 : BitVec 32 := Scalar.addi c0_i32_83 v116
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_84 : BitVec 32 := 4#32
  let v118 : BitVec 32 := Scalar.muli v9 c4_i32_84
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v120 : BitVec 32 := Scalar.muli v8 c1_i32_85
  let v121 : BitVec 32 := Scalar.addi v119 v120
  v121.toNat
def k0_dev10 (d0 : Dev nD) : Nat :=
  let c0_i32_93 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_92 : BitVec 32 := 8#32
  let v131 : BitVec 32 := Scalar.muli v2 c8_i32_92
  let v132 : BitVec 32 := Scalar.addi c0_i32_93 v131
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_94 : BitVec 32 := 4#32
  let v133 : BitVec 32 := Scalar.muli v9 c4_i32_94
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v135 : BitVec 32 := Scalar.muli v8 c1_i32_95
  let v136 : BitVec 32 := Scalar.addi v134 v135
  v136.toNat
def k0_off2 (d0 : Dev nD) : Fin 3 → Nat :=
  let c0 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v145 : Index := Scalar.indexCast v24
  let c0_99 : Index := 0#32
  ![0, v145.toNat, 0]
def k0_off3 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v148 : Index := Scalar.indexCast v24
  let c0_100 : Index := 0#32
  ![v148.toNat, 0]
def k0_off4 (d0 : Dev nD) (c0_i32_103 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v155 : BitVec 32 := Scalar.addi v24 c0_i32_103
  let c0_i32_133 : BitVec 32 := 0#32
  ![v155.toNat, 0]
def k0_dev11 (d0 : Dev nD) : Nat :=
  let c0_i32_130 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_129 : BitVec 32 := 8#32
  let v190 : BitVec 32 := Scalar.muli v10 c8_i32_129
  let v191 : BitVec 32 := Scalar.addi c0_i32_130 v190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_131 : BitVec 32 := 4#32
  let v192 : BitVec 32 := Scalar.muli v5 c4_i32_131
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v194 : BitVec 32 := Scalar.muli v8 c1_i32_132
  let v195 : BitVec 32 := Scalar.addi v193 v194
  v195.toNat
def k0_dev12 (d0 : Dev nD) : Nat :=
  let c0_i32_162 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_161 : BitVec 32 := 8#32
  let v238 : BitVec 32 := Scalar.muli v10 c8_i32_161
  let v239 : BitVec 32 := Scalar.addi c0_i32_162 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_163 : BitVec 32 := 4#32
  let v240 : BitVec 32 := Scalar.muli v5 c4_i32_163
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v242 : BitVec 32 := Scalar.muli v8 c1_i32_164
  let v243 : BitVec 32 := Scalar.addi v241 v242
  v243.toNat
def k0_dev13 (d0 : Dev nD) : Nat :=
  let c0_i32_194 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_193 : BitVec 32 := 8#32
  let v286 : BitVec 32 := Scalar.muli v10 c8_i32_193
  let v287 : BitVec 32 := Scalar.addi c0_i32_194 v286
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_195 : BitVec 32 := 4#32
  let v288 : BitVec 32 := Scalar.muli v5 c4_i32_195
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v290 : BitVec 32 := Scalar.muli v8 c1_i32_196
  let v291 : BitVec 32 := Scalar.addi v289 v290
  v291.toNat
def k0_dev14 (d0 : Dev nD) : Nat :=
  let c0_i32_226 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_225 : BitVec 32 := 8#32
  let v334 : BitVec 32 := Scalar.muli v10 c8_i32_225
  let v335 : BitVec 32 := Scalar.addi c0_i32_226 v334
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v336 : BitVec 32 := Scalar.muli v5 c4_i32_227
  let v337 : BitVec 32 := Scalar.addi v335 v336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v338 : BitVec 32 := Scalar.muli v8 c1_i32_228
  let v339 : BitVec 32 := Scalar.addi v337 v338
  v339.toNat
def k0_dev15 (d0 : Dev nD) : Nat :=
  let c0_i32_258 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_257 : BitVec 32 := 8#32
  let v382 : BitVec 32 := Scalar.muli v10 c8_i32_257
  let v383 : BitVec 32 := Scalar.addi c0_i32_258 v382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_259 : BitVec 32 := 4#32
  let v384 : BitVec 32 := Scalar.muli v5 c4_i32_259
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v386 : BitVec 32 := Scalar.muli v8 c1_i32_260
  let v387 : BitVec 32 := Scalar.addi v385 v386
  v387.toNat
def k0_dev16 (d0 : Dev nD) : Nat :=
  let c0_i32_290 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_289 : BitVec 32 := 8#32
  let v430 : BitVec 32 := Scalar.muli v10 c8_i32_289
  let v431 : BitVec 32 := Scalar.addi c0_i32_290 v430
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_291 : BitVec 32 := 4#32
  let v432 : BitVec 32 := Scalar.muli v5 c4_i32_291
  let v433 : BitVec 32 := Scalar.addi v431 v432
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v434 : BitVec 32 := Scalar.muli v8 c1_i32_292
  let v435 : BitVec 32 := Scalar.addi v433 v434
  v435.toNat
def k0_dev17 (d0 : Dev nD) : Nat :=
  let c0_i32_322 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_321 : BitVec 32 := 8#32
  let v478 : BitVec 32 := Scalar.muli v10 c8_i32_321
  let v479 : BitVec 32 := Scalar.addi c0_i32_322 v478
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_323 : BitVec 32 := 4#32
  let v480 : BitVec 32 := Scalar.muli v5 c4_i32_323
  let v481 : BitVec 32 := Scalar.addi v479 v480
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v482 : BitVec 32 := Scalar.muli v8 c1_i32_324
  let v483 : BitVec 32 := Scalar.addi v481 v482
  v483.toNat
def k0_dev18 (d0 : Dev nD) : Nat :=
  let c0_i32_354 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_353 : BitVec 32 := 8#32
  let v526 : BitVec 32 := Scalar.muli v10 c8_i32_353
  let v527 : BitVec 32 := Scalar.addi c0_i32_354 v526
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_355 : BitVec 32 := 4#32
  let v528 : BitVec 32 := Scalar.muli v5 c4_i32_355
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v530 : BitVec 32 := Scalar.muli v8 c1_i32_356
  let v531 : BitVec 32 := Scalar.addi v529 v530
  v531.toNat
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x512 : Shape := ⟨3, ![2, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Plain.lean ====
/- The kernel's body once more, in its plain order: the handshake, the eight first-leg copies, the partial sum, the
   eight chunks (wait, normalise, pass on), the store of the own half, and the waits. A chunk is a variable here. -/
module

public import proofs.«01_k».proof.Proof.Gen.KernelIdeal.Skeleton

@[expose] public section

set_option synthInstance.maxSize 4096

noncomputable section

namespace Cert.Norm

open Cert.KernelIdeal Cert.KernelIdeal.Gen
open Idealize.ShloMosaic Idealize.SL.Sem
open Idealize.ShloMosaic.TcCoe

variable {F : FTy → Type} [FloatOps F]

/-! ## The buffers and their chunks -/

/-- The partial block of the device. -/
abbrev pM : Memref sig .tc .vmem S1x512x512 .f32 := Memref.whole cc0_stg0_0
/-- The residual. -/
abbrev rM : Memref sig .tc .vmem S512x512 .f32 := Memref.whole cc0_stg1_0
/-- The scale. -/
abbrev gM : Memref sig .tc .vmem S512 .f32 := Memref.whole cc0_stg2_0
/-- The result. -/
abbrev oM : Memref sig .tc .vmem S512x512 .f32 := Memref.whole cc0_stg3_0
/-- The landing buffer of the first leg, eight chunks. -/
abbrev cM : Memref sig .tc .vmem S8x32x512 .f32 := Memref.whole cc0_scratch0
/-- The own partial plus the residual, on the own half of the rows. -/
abbrev tM : Memref sig .tc .vmem S256x512 .f32 := Memref.whole cc0_scratch1
/-- The normalised own half, eight chunks. -/
abbrev bM : Memref sig .tc .vmem S8x32x512 .f32 := Memref.whole cc0_scratch2

theorem slot_inb : ∀ (k : Fin 8) (a : Fin 3), (![k.val, 0, 0] : Fin 3 → Nat) a + S1x32x512.size a ≤ S8x32x512.size a := by decide
theorem rows_inb : ∀ (k : Fin 8) (a : Fin 2), (![32 * k.val, 0] : Fin 2 → Nat) a + S32x512.size a ≤ S256x512.size a := by decide
theorem sem_inb : ∀ (k : Fin 8) (a : Fin 1), (![k.val] : Fin 1 → Nat) a + S1.size a ≤ S8.size a := by decide

/-- Slot `k` of an eight-slot buffer. -/
abbrev slotR (k : Fin 8) : Rect S8x32x512 := Rect.unit (s := S8x32x512) ![k.val, 0, 0] S1x32x512.size (slot_inb k)
/-- Rows `32 k` to `32 k + 31` of the partial sum. -/
abbrev rowsR (k : Fin 8) : Rect S256x512 := Rect.unit (s := S256x512) ![32 * k.val, 0] S32x512.size (rows_inb k)
/-- Rows `32 k` to `32 k + 31` of device `d`'s half of the partial block. -/
abbrev pR (d : Dev nD) (k : Fin 8) : Rect S1x512x512 :=
  Rect.unit (s := S1x512x512) (k0_off1 d (BitVec.ofNat 32 (32 * k.val))) S1x32x512.size (k0_off1_inb d k)
/-- The same rows of the result. -/
abbrev oR (d : Dev nD) (k : Fin 8) : Rect S512x512 :=
  Rect.unit (s := S512x512) (k0_off4 d (BitVec.ofNat 32 (32 * k.val))) S32x512.size (k0_off4_inb d k)
/-- Device `d`'s half of the partial block. -/
abbrev pHalfR (d : Dev nD) : Rect S1x512x512 := Rect.unit (s := S1x512x512) (k0_off2 d) S1x256x512.size (k0_off2_inb d)
/-- Device `d`'s half of the residual and of the result. -/
abbrev halfR (d : Dev nD) : Rect S512x512 := Rect.unit (s := S512x512) (k0_off3 d) S256x512.size (k0_off3_inb d)

abbrev pC (d : Dev nD) (k : Fin 8) : Memref sig .tc .vmem S32x512 .f32 :=
  (pM.slice (pR d k) (fun _ => rfl)).squeeze S32x512 squeezes_S1x32x512_S32x512
abbrev cC (k : Fin 8) : Memref sig .tc .vmem S32x512 .f32 :=
  (cM.slice (slotR k) (fun _ => rfl)).squeeze S32x512 squeezes_S1x32x512_S32x512
abbrev bC (k : Fin 8) : Memref sig .tc .vmem S32x512 .f32 :=
  (bM.slice (slotR k) (fun _ => rfl)).squeeze S32x512 squeezes_S1x32x512_S32x512
abbrev oC (d : Dev nD) (k : Fin 8) : Memref sig .tc .vmem S32x512 .f32 := oM.slice (oR d k) (fun _ => rfl)

/-! ## The semaphores -/

/-- The handshake's semaphore. -/
abbrev barS : Sem sig := (SemArray.scalar (sig.barrier 0 rfl) : Sems sig S_).sem
/-- Semaphore `k` of an eight-semaphore array. -/
abbrev semC (a : DmaSems sig S8) (k : Fin 8) : DmaSem sig :=
  ((a.slice (Rect.unit (s := S8) ![k.val] S1.size (sem_inb k))).squeeze S_ squeezes_S1_S_ : DmaSems sig S_).sem
abbrev sA (k : Fin 8) : DmaSem sig := semC cc0_scratch3 k
abbrev rA (k : Fin 8) : DmaSem sig := semC cc0_scratch4 k
abbrev sB (k : Fin 8) : DmaSem sig := semC cc0_scratch5 k
abbrev rB (k : Fin 8) : DmaSem sig := semC cc0_scratch6 k

/-! ## The neighbours -/

/-- The device the first leg exchanges with: the other coordinate along `y`. -/
def yNbr (d : Dev nD) : Dev nD := ⟨k0_dev1 d, k0_dev1_lt d⟩
/-- The device the second leg exchanges with: the other coordinate along `x`. -/
def xNbr (d : Dev nD) : Dev nD := ⟨k0_dev2 d, k0_dev2_lt d⟩

/-! ## The program -/

abbrev P (α : Type) := Prog (TpuEff nD τ sig (Elt F) Λ₀ .tc) α

/-- The steps `f k` for the chunks of a list, in its order. -/
def each : List (Fin 8) → (Fin 8 → P (F := F) PUnit) → P (F := F) PUnit
  | [], _ => pure ⟨⟩
  | k :: ks, f => f k >>= fun _ => each ks f

def chunks : List (Fin 8) := [0, 1, 2, 3, 4, 5, 6, 7]

/-- First leg, chunk `k`: copy the chunk of the own partial block into the `y` neighbour's slot. -/
def sendA (d : Dev nD) (k : Fin 8) : P (F := F) PUnit :=
  Prog.lift (.enqueueDma (pC d k) (.remote (Dev.tc (yNbr d)) (cC k) (.dma (sA k))) (.dma (rA k))
    ((View.wordExact_bits rfl).reshape _ _) ((View.wordExact_bits rfl).reshape _ _) ⟨⟨rfl, Or.inl rfl⟩, trivial⟩)

/-- The partial sum: own partial plus residual, on the own half. -/
def addOwn (d : Dev nD) : P (F := F) PUnit := do
  let p : Vec F S1x256x512 .f32 ← Prog.lift (.load pM (pHalfR d).toLoadRect (View.loadsAt_vmem h_S1x256x512))
  let r : Vec F S256x512 .f32 ← Prog.lift (.load rM (halfR d).toLoadRect (View.loadsAt_vmem h_S256x512))
  let _ : Vec F S256x512 .f32 ← Prog.lift (.load tM (Rect.unit (s := S256x512) ![0, 0] S256x512.size inb_S256x512_S256x512_0_0).toLoadRect (View.loadsAt_vmem h_S256x512))
  Prog.lift (.store tM (Rect.unit (s := S256x512) ![0, 0] S256x512.size inb_S256x512_S256x512_0_0) (k0_pay1 p r) Finset.univ (View.stores_vmem_bits_univ h_S256x512 rfl) (.inl rfl))

/-- Chunk `k` of the second leg: wait for the neighbour's partial, normalise the sum's rows, store them and pass them on. -/
def chunk (d : Dev nD) (k : Fin 8) : P (F := F) PUnit := do
  Prog.lift (.waitDma2 (rA k) (pC d k) (cC k) ((View.wordExact_bits rfl).reshape _ _) ((View.wordExact_bits rfl).reshape _ _))
  let t : Vec F S32x512 .f32 ← Prog.lift (.load tM (rowsR k).toLoadRect (View.loadsAt_vmem h_S32x512))
  let q : Vec F S1x32x512 .f32 ← Prog.lift (.load cM (slotR k).toLoadRect (View.loadsAt_vmem h_S1x32x512))
  let g : Vec F S512 .f32 ← Prog.lift (.load gM (Rect.unit (s := S512) ![0] S512.size inb_S512_S512_0).toLoadRect (View.loadsAt_vmem h_S512))
  let _ : Vec F S1x32x512 .f32 ← Prog.lift (.load bM (slotR k).toLoadRect (View.loadsAt_vmem h_S1x32x512))
  Prog.lift (.store bM (slotR k) (k0_pay2 t q g) Finset.univ (View.stores_vmem_bits_univ h_S1x32x512 rfl) (.inl rfl))
  Prog.lift (.enqueueDma (bC k) (.remote (Dev.tc (xNbr d)) (oC d k) (.dma (sB k))) (.dma (rB k))
    ((View.wordExact_bits rfl).reshape _ _) (View.wordExact_bits rfl) ⟨⟨rfl, Or.inl rfl⟩, trivial⟩)

/-- The own half of the result, from the normalised chunks. -/
def storeOwn (d : Dev nD) : P (F := F) PUnit := do
  let b : Vec F S8x32x512 .f32 ← Prog.lift (.load bM (Rect.unit (s := S8x32x512) ![0, 0, 0] S8x32x512.size inb_S8x32x512_S8x32x512_0_0_0).toLoadRect (View.loadsAt_vmem h_S8x32x512))
  let _ : Vec F S256x512 .f32 ← Prog.lift (.load oM (halfR d).toLoadRect (View.loadsAt_vmem h_S256x512))
  Prog.lift (.store oM (halfR d) (k0_pay15 b) Finset.univ (View.stores_vmem_bits_univ h_S256x512 rfl) (.inl rfl))

def waitA (d : Dev nD) (k : Fin 8) : P (F := F) PUnit :=
  Prog.lift (.waitDma2 (sA k) (cC k) (pC d k) ((View.wordExact_bits rfl).reshape _ _) ((View.wordExact_bits rfl).reshape _ _))

def waitB (d : Dev nD) (k : Fin 8) : P (F := F) PUnit := do
  Prog.lift (.waitDma2 (sB k) (oC d k) (bC k) (View.wordExact_bits rfl) ((View.wordExact_bits rfl).reshape _ _))
  Prog.lift (.waitDma2 (rB k) (bC k) (oC d k) ((View.wordExact_bits rfl).reshape _ _) (View.wordExact_bits rfl))

def body : P (F := F) PUnit := do
  let d : Dev nD ← Prog.lift .deviceId
  semSignalWord (yNbr d) barS 1#32
  semSignalWord (xNbr d) barS 1#32
  semWaitWord barS 2#32
  each chunks (sendA d)
  addOwn d
  each chunks (chunk d)
  storeOwn d
  each chunks (waitA d)
  each chunks (waitB d)

set_option maxRecDepth 65536 in
set_option maxHeartbeats 4000000 in
/-- The printed body is the plain one. -/
theorem cc0_body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 = body (F := F) := by
  rw [cc0_body_eq_skeleton]
  rfl

end Cert.Norm

end
-- ==== Proof.Geometry.lean ====
/- Where the chunks lie: the neighbours of a device, the rows each chunk occupies in the four buffers, that the chunks of
   one buffer are disjoint and cover what they should, and the place of a chunk's element in its buffer. -/
module

public import proofs.«01_k».proof.Proof.Plain
public import Idealize.ShloMosaic.Lib.Tactic

@[expose] public section

noncomputable section

namespace Cert.Norm

open Cert.KernelIdeal Cert.KernelIdeal.Gen
open Idealize.ShloMosaic Idealize.SL.Sem
open Idealize.ShloMosaic.TcCoe

/-! ## The neighbours -/

theorem yNbr_val (d : Dev nD) : (yNbr d).val = (8 * (d.val / 8) + d.val % 4 + 4) - 4 * (d.val / 4 % 2) := k0_dev1_eq d
theorem xNbr_val (d : Dev nD) : (xNbr d).val = (4 * (d.val / 4 % 2) + d.val % 4 + 8) - 8 * (d.val / 8) := k0_dev2_eq d

theorem dev_lt (d : Dev nD) : d.val < 16 := d.isLt

theorem yNbr_yNbr (d : Dev nD) : yNbr (yNbr d) = d :=
  Fin.ext (by have := dev_lt d; rw [yNbr_val, yNbr_val]; omega)
theorem xNbr_xNbr (d : Dev nD) : xNbr (xNbr d) = d :=
  Fin.ext (by have := dev_lt d; rw [xNbr_val, xNbr_val]; omega)
/-- The first leg stays on the same half. -/
theorem half_yNbr (d : Dev nD) : (yNbr d).val / 8 = d.val / 8 := by have := dev_lt d; rw [yNbr_val]; omega
/-- The second leg crosses to the other half. -/
theorem half_xNbr (d : Dev nD) : (xNbr d).val / 8 = 1 - d.val / 8 := by have := dev_lt d; rw [xNbr_val]; omega
/-- The first leg crosses to the other partial block. -/
theorem part_yNbr (d : Dev nD) : (yNbr d).val / 4 % 2 = 1 - d.val / 4 % 2 := by have := dev_lt d; rw [yNbr_val]; omega
/-- The second leg stays with the same partial block. -/
theorem part_xNbr (d : Dev nD) : (xNbr d).val / 4 % 2 = d.val / 4 % 2 := by have := dev_lt d; rw [xNbr_val]; omega
theorem half_lt (d : Dev nD) : d.val / 8 < 2 := by have := dev_lt d; omega

def ySwap : Dev nD ≃ Dev nD := ⟨yNbr, yNbr, yNbr_yNbr, yNbr_yNbr⟩
def xSwap : Dev nD ≃ Dev nD := ⟨xNbr, xNbr, xNbr_xNbr, xNbr_xNbr⟩

/-! ## The credit of a chunk -/

/-- What one chunk's transfer credits. -/
abbrev N : ℕ := (cC 0).view.dmaCredit
theorem N_pos : 0 < N := View.dmaCredit_pos _ (by decide)
theorem credit_c (k : Fin 8) : (cC k).view.dmaCredit = N := rfl
theorem credit_p (d : Dev nD) (k : Fin 8) : (pC d k).view.dmaCredit = N := rfl
theorem credit_b (k : Fin 8) : (bC k).view.dmaCredit = N := rfl
theorem credit_o (d : Dev nD) (k : Fin 8) : (oC d k).view.dmaCredit = N := rfl

/-! ## Offsets -/

theorem off1 (d : Dev nD) (k : Fin 8) : k0_off1 d (BitVec.ofNat 32 (32 * k.val)) = ![0, 256 * (d.val / 8) + 32 * k.val, 0] := k0_off1_eq d k
theorem off2 (d : Dev nD) : k0_off2 d = ![0, 256 * (d.val / 8), 0] := k0_off2_eq d
theorem off3 (d : Dev nD) : k0_off3 d = ![256 * (d.val / 8), 0] := k0_off3_eq d
theorem off4 (d : Dev nD) (k : Fin 8) : k0_off4 d (BitVec.ofNat 32 (32 * k.val)) = ![256 * (d.val / 8) + 32 * k.val, 0] := k0_off4_eq d k

/-! ## Which elements a chunk has -/

theorem set_squeeze_slice {κ : Kind} (b : Ref sig κ) (r : Rect b.ty.shape) {s' : Shape} (h : s'.numel = r.shape.numel) :
    (((View.whole b).slice r).reshape s' h).set = r.set := by
  rw [View.set_reshape, View.set_slice_whole]

theorem set_cC (k : Fin 8) : (cC k).view.set = (slotR k).set := set_squeeze_slice cc0_scratch0 (slotR k) _
theorem set_bC (k : Fin 8) : (bC k).view.set = (slotR k).set := set_squeeze_slice cc0_scratch2 (slotR k) _
theorem set_pC (d : Dev nD) (k : Fin 8) : (pC d k).view.set = (pR d k).set := set_squeeze_slice cc0_stg0_0 (pR d k) _
theorem set_oC (d : Dev nD) (k : Fin 8) : (oC d k).view.set = (oR d k).set := View.set_slice_whole cc0_stg3_0 _
theorem set_half (d : Dev nD) : (oM.access (halfR d)).set = (halfR d).set := View.set_slice_whole cc0_stg3_0 _

theorem mem_slotR (k : Fin 8) (i : S8x32x512.Idx) : i ∈ (slotR k).set ↔ (i 0).val = k.val := by
  rw [Rect.mem_set_unit, Fin.forall_fin_succ, Fin.forall_fin_succ, Fin.forall_fin_succ]
  have h1 : (i 1).val < 32 := (i 1).isLt
  have h2 : (i 2).val < 512 := (i 2).isLt
  refine ⟨fun h => ?_, fun h => ⟨?_, ⟨Nat.zero_le _, ?_⟩, ⟨Nat.zero_le _, ?_⟩, fun a => a.elim0⟩⟩
  · have := h.1; change k.val ≤ (i 0).val ∧ (i 0).val < k.val + 1 at this; omega
  · change k.val ≤ (i 0).val ∧ (i 0).val < k.val + 1; omega
  · change (i 1).val < 0 + 32; omega
  · change (i 2).val < 0 + 512; omega

theorem mem_pR (d : Dev nD) (k : Fin 8) (i : S1x512x512.Idx) :
    i ∈ (pR d k).set ↔ 256 * (d.val / 8) + 32 * k.val ≤ (i 1).val ∧ (i 1).val < 256 * (d.val / 8) + 32 * k.val + 32 := by
  rw [Rect.mem_set_unit, off1, Fin.forall_fin_succ, Fin.forall_fin_succ, Fin.forall_fin_succ]
  have h0 : (i 0).val < 1 := (i 0).isLt
  have h2 : (i 2).val < 512 := (i 2).isLt
  refine ⟨fun h => h.2.1, fun h => ⟨⟨Nat.zero_le _, ?_⟩, h, ⟨Nat.zero_le _, ?_⟩, fun a => a.elim0⟩⟩
  · change (i 0).val < 0 + 1; omega
  · change (i 2).val < 0 + 512; omega

theorem mem_oR (d : Dev nD) (k : Fin 8) (i : S512x512.Idx) :
    i ∈ (oR d k).set ↔ 256 * (d.val / 8) + 32 * k.val ≤ (i 0).val ∧ (i 0).val < 256 * (d.val / 8) + 32 * k.val + 32 := by
  rw [Rect.mem_set_unit, off4, Fin.forall_fin_succ, Fin.forall_fin_succ]
  have h1 : (i 1).val < 512 := (i 1).isLt
  refine ⟨fun h => h.1, fun h => ⟨h, ⟨Nat.zero_le _, ?_⟩, fun a => a.elim0⟩⟩
  change (i 1).val < 0 + 512; omega

theorem mem_halfR (d : Dev nD) (i : S512x512.Idx) : i ∈ (halfR d).set ↔ (i 0).val / 256 = d.val / 8 := by
  rw [Rect.mem_set_unit, off3, Fin.forall_fin_succ, Fin.forall_fin_succ]
  have h1 : (i 1).val < 512 := (i 1).isLt
  refine ⟨fun h => ?_, fun h => ⟨?_, ⟨Nat.zero_le _, ?_⟩, fun a => a.elim0⟩⟩
  · have := h.1; change 256 * (d.val / 8) ≤ (i 0).val ∧ (i 0).val < 256 * (d.val / 8) + 256 at this; omega
  · change 256 * (d.val / 8) ≤ (i 0).val ∧ (i 0).val < 256 * (d.val / 8) + 256; omega
  · change (i 1).val < 0 + 512; omega

/-! ## Disjoint and covering -/

theorem slot_disjoint {k k' : Fin 8} (h : k ≠ k') : Disjoint (slotR k).set (slotR k').set := by
  rw [Finset.disjoint_left]
  intro i h1 h2
  rw [mem_slotR] at h1 h2
  exact h (Fin.ext (h1.symm.trans h2))

theorem slot_cover : Finset.univ.biUnion (fun k : Fin 8 => (slotR k).set) = Finset.univ := by
  rw [Finset.eq_univ_iff_forall]
  intro i
  rw [Finset.mem_biUnion]
  exact ⟨⟨(i 0).val, (i 0).isLt⟩, Finset.mem_univ _, (mem_slotR _ i).mpr rfl⟩

theorem pR_disjoint (d : Dev nD) {k k' : Fin 8} (h : k ≠ k') : Disjoint (pR d k).set (pR d k').set := by
  rw [Finset.disjoint_left]
  intro i h1 h2
  rw [mem_pR] at h1 h2
  exact h (Fin.ext (by omega))

theorem oR_disjoint (d : Dev nD) {k k' : Fin 8} (h : k ≠ k') : Disjoint (oR d k).set (oR d k').set := by
  rw [Finset.disjoint_left]
  intro i h1 h2
  rw [mem_oR] at h1 h2
  exact h (Fin.ext (by omega))

/-- The chunks a device receives in the second leg are its other half of the rows. -/
theorem oR_cover (d : Dev nD) : Finset.univ.biUnion (fun k : Fin 8 => (oR d k).set) = (halfR d).set := by
  ext i
  rw [Finset.mem_biUnion, mem_halfR]
  have h0 : (i 0).val < 512 := (i 0).isLt
  constructor
  · rintro ⟨k, -, hk⟩
    rw [mem_oR] at hk
    have := k.isLt
    omega
  · intro h
    refine ⟨⟨(i 0).val % 256 / 32, by omega⟩, Finset.mem_univ _, ?_⟩
    rw [mem_oR]
    show 256 * (d.val / 8) + 32 * ((i 0).val % 256 / 32) ≤ (i 0).val ∧ (i 0).val < 256 * (d.val / 8) + 32 * ((i 0).val % 256 / 32) + 32
    omega

theorem half_compl (d : Dev nD) : (Finset.univ : Finset S512x512.Idx) \ (halfR (xNbr d)).set = (halfR d).set := by
  ext i
  rw [Finset.mem_sdiff, mem_halfR, mem_halfR, half_xNbr]
  have h0 : (i 0).val < 512 := (i 0).isLt
  have := half_lt d
  constructor
  · rintro ⟨-, h⟩; omega
  · intro h; exact ⟨Finset.mem_univ _, by omega⟩

/-! ## The place of an element -/

/-- The elements of a flat chunk, as those of a chunk with a leading axis of one. -/
theorem lead_one (h : S32x512.numel = S1x32x512.numel) (x : S32x512.Idx) :
    Shape.reshapeEquiv h x = (Fin.cons (⟨0, Nat.one_pos⟩ : Fin 1) x : S1x32x512.Idx) :=
  Shape.reshapeEquiv_cons_one (d := ![32, 512]) h x

end Cert.Norm

end
-- ==== Proof.Contents.lean ====
/- What the buffers hold. For the devices' partial blocks `p`, residuals `r` and scales `g`: the partial sum of the own
   half, what lands from the first leg, the normalised own half, and the result, each as one array per device. -/
module

public import proofs.«01_k».proof.Proof.Geometry
public import Idealize.ShloMosaic.Lib.ValueIdxCore
public import Idealize.ShloMosaic.Lib.Pipeline.Value

@[expose] public section

noncomputable section

namespace Cert.Norm

open Cert.KernelIdeal Cert.KernelIdeal.Gen
open Idealize.ShloMosaic Idealize.SL.Sem
open Idealize.ShloMosaic.TcCoe
open Idealize.ShloMosaic.ValueIdx (ix2 ix3)

variable {F : FTy → Type} [FloatOps F]

/-- The whole scale, as a load reads it. -/
abbrev gR : Rect S512 := Rect.unit (s := S512) ![0] S512.size inb_S512_S512_0
/-- The whole partial sum. -/
abbrev tR : Rect S256x512 := Rect.unit (s := S256x512) ![0, 0] S256x512.size inb_S256x512_S256x512_0_0
/-- All eight chunks. -/
abbrev bR : Rect S8x32x512 := Rect.unit (s := S8x32x512) ![0, 0, 0] S8x32x512.size inb_S8x32x512_S8x32x512_0_0_0

theorem row_lt (c : Dev nD) (k : Fin 8) (j : Fin 32) : 256 * (c.val / 8) + 32 * k.val + j.val < 512 := by
  have := half_lt c; have := k.isLt; have := j.isLt; omega

/-- Row `32 k + j` of device `c`'s half. -/
def row (c : Dev nD) (k : Fin 8) (j : Fin 32) : Fin 512 := ⟨256 * (c.val / 8) + 32 * k.val + j.val, row_lt c k j⟩

theorem half_row_lt (c : Dev nD) (j : Fin 256) : 256 * (c.val / 8) + j.val < 512 := by
  have := half_lt c; have := j.isLt; omega

/-- Row `j` of device `c`'s half. -/
def halfRow (c : Dev nD) (j : Fin 256) : Fin 512 := ⟨256 * (c.val / 8) + j.val, half_row_lt c j⟩

/-! ## The place of an element -/

theorem emb_slotR (k : Fin 8) (y : S1x32x512.Idx) : (slotR k).emb y = (ix3 k (y 1) (y 2) : S8x32x512.Idx) := by
  have h0 : (y 0).val = 0 := Nat.lt_one_iff.mp (y 0).isLt
  funext a
  apply Fin.ext
  rw [Rect.emb_apply]
  match a with
  | ⟨0, _⟩ => show k.val + 1 * (y 0).val = k.val; omega
  | ⟨1, _⟩ => show 0 + 1 * (y 1).val = (y 1).val; omega
  | ⟨2, _⟩ => show 0 + 1 * (y 2).val = (y 2).val; omega

theorem emb_cC (k : Fin 8) (x : S32x512.Idx) : (cC k).view.emb x = (ix3 k (x 0) (x 1) : S8x32x512.Idx) := by
  show (slotR k).emb (Shape.reshapeEquiv _ x) = _
  rw [lead_one, emb_slotR]; rfl

theorem emb_bC (k : Fin 8) (x : S32x512.Idx) : (bC k).view.emb x = (ix3 k (x 0) (x 1) : S8x32x512.Idx) := by
  show (slotR k).emb (Shape.reshapeEquiv _ x) = _
  rw [lead_one, emb_slotR]; rfl

theorem emb_pC (d : Dev nD) (k : Fin 8) (x : S32x512.Idx) : (pC d k).view.emb x = (ix3 0 (row d k (x 0)) (x 1) : S1x512x512.Idx) := by
  show (pR d k).emb (Shape.reshapeEquiv _ x) = _
  rw [lead_one]
  funext a
  apply Fin.ext
  rw [Rect.emb_apply]
  show k0_off1 d (BitVec.ofNat 32 (32 * k.val)) a + _ = _
  rw [off1]
  match a with
  | ⟨0, _⟩ => rfl
  | ⟨1, _⟩ => show 256 * (d.val / 8) + 32 * k.val + 1 * (x 0).val = 256 * (d.val / 8) + 32 * k.val + (x 0).val; omega
  | ⟨2, _⟩ => show 0 + 1 * (x 1).val = (x 1).val; omega

theorem emb_oC (d : Dev nD) (k : Fin 8) (x : S32x512.Idx) : (oC d k).view.emb x = (ix2 (row d k (x 0)) (x 1) : S512x512.Idx) := by
  show (oR d k).emb x = _
  funext a
  apply Fin.ext
  rw [Rect.emb_apply]
  show k0_off4 d (BitVec.ofNat 32 (32 * k.val)) a + _ = _
  rw [off4]
  match a with
  | ⟨0, _⟩ => show 256 * (d.val / 8) + 32 * k.val + 1 * (x 0).val = 256 * (d.val / 8) + 32 * k.val + (x 0).val; omega
  | ⟨1, _⟩ => show 0 + 1 * (x 1).val = (x 1).val; omega

theorem emb_halfR (d : Dev nD) (x : S256x512.Idx) : (halfR d).emb x = (ix2 (halfRow d (x 0)) (x 1) : S512x512.Idx) := by
  funext a
  apply Fin.ext
  rw [Rect.emb_apply]
  show k0_off3 d a + _ = _
  rw [off3]
  match a with
  | ⟨0, _⟩ => show 256 * (d.val / 8) + 1 * (x 0).val = 256 * (d.val / 8) + (x 0).val; omega
  | ⟨1, _⟩ => show 0 + 1 * (x 1).val = (x 1).val; omega

/-! ## The arrays -/

variable (p : Dev nD → Vec F S1x512x512 .f32) (r : Dev nD → Vec F S512x512 .f32) (g : Dev nD → Vec F S512 .f32)

/-- The partial sum on device `c`: its partial block plus the residual, on its half of the rows. -/
def sumOf (c : Dev nD) : Vec F S256x512 .f32 :=
  k0_pay1 (pM.view.readAt (Elt F) (pHalfR c).toLoadRect (p c)) (rM.view.readAt (Elt F) (halfR c).toLoadRect (r c))

/-- What the first leg lands on device `c`: its half of the rows of the `y` neighbour's partial block, in eight chunks. -/
def landed (c : Dev nD) : Vec F S8x32x512 .f32 := fun i => p (yNbr c) (ix3 0 (row c (i 0) (i 1)) (i 2))

/-- The normalised half of device `c`, in eight chunks: chunk `k` from rows `32 k` to `32 k + 31` of the partial sum and
    from the chunk that landed. -/
def normed (c : Dev nD) : Vec F S8x32x512 .f32 := fun i =>
  k0_pay2 (tM.view.readAt (Elt F) (rowsR (i 0)).toLoadRect (sumOf p r c)) (cM.view.readAt (Elt F) (slotR (i 0)).toLoadRect (landed p c))
    (gM.view.readAt (Elt F) gR.toLoadRect (g c)) (ix3 0 (i 1) (i 2))

/-- The device whose computation device `c` holds in row `i`: itself on its own half, the `x` neighbour on the other. -/
def source (c : Dev nD) (i : Fin 512) : Dev nD := if i.val / 256 = c.val / 8 then c else xNbr c

/-- The result on device `c`. -/
def result (c : Dev nD) : Vec F S512x512 .f32 := fun i =>
  normed p r g (source c (i 0)) (ix3 ⟨(i 0).val % 256 / 32, by omega⟩ ⟨(i 0).val % 32, by omega⟩ (i 1))

/-! ## Each write, on the elements it writes -/

/-- The first leg's chunk `k` from `d` is the `y` neighbour's landed contents there. -/
theorem write_landed (d : Dev nD) (k : Fin 8) (f : Vec F S8x32x512 .f32) : ∀ i ∈ (cC k).view.set,
    (cC k).view.write (Elt F) f ((pC d k).view.read (Elt F) (p d)) Finset.univ i = landed p (yNbr d) i := by
  intro i hi
  obtain ⟨x, -, rfl⟩ := Finset.mem_map.mp hi
  rw [View.write_emb_of_mem _ _ (Finset.mem_univ x)]
  show p d ((pC d k).view.emb x) = landed p (yNbr d) ((cC k).view.emb x)
  rw [emb_pC, emb_cC]
  show _ = p (yNbr (yNbr d)) (ix3 0 (row (yNbr d) k (x 0)) (x 1))
  rw [yNbr_yNbr]
  congr 2
  exact Fin.ext (by show _ = 256 * ((yNbr d).val / 8) + _ + _; rw [half_yNbr]; rfl)

/-- The store of chunk `k` leaves the normalised half there. -/
theorem write_normed (d : Dev nD) (k : Fin 8) (f : Vec F S8x32x512 .f32) : ∀ i ∈ (bC k).view.set,
    (bM.access (slotR k)).write (Elt F) f
      (k0_pay2 (tM.view.readAt (Elt F) (rowsR k).toLoadRect (sumOf p r d)) (cM.view.readAt (Elt F) (slotR k).toLoadRect (landed p d))
        (gM.view.readAt (Elt F) gR.toLoadRect (g d))) Finset.univ i = normed p r g d i := by
  intro i hi
  rw [set_bC, ← View.set_slice_whole cc0_scratch2] at hi
  obtain ⟨y, -, rfl⟩ := Finset.mem_map.mp hi
  refine (View.write_emb_of_mem (v := bM.access (slotR k)) f _ (Finset.mem_univ y)).trans ?_
  show _ = normed p r g d ((slotR k).emb y)
  rw [emb_slotR]
  refine congrArg (k0_pay2 _ _ _) ?_
  have h0 : y 0 = (0 : Fin 1) := Fin.ext (Nat.lt_one_iff.mp (y 0).isLt)
  funext a
  match a with
  | ⟨0, _⟩ => exact h0
  | ⟨1, _⟩ => rfl
  | ⟨2, _⟩ => rfl

theorem source_row (c : Dev nD) (k : Fin 8) (j : Fin 32) (e : Dev nD) (he : e = c ∨ e = xNbr c) : source e (row c k j) = c := by
  have hk := k.isLt; have hj := j.isLt; have hc := half_lt c
  have hr : (row c k j).val / 256 = c.val / 8 := by show (256 * (c.val / 8) + 32 * k.val + j.val) / 256 = _; omega
  unfold source
  rw [hr]
  rcases he with rfl | rfl
  · rw [if_pos rfl]
  · rw [half_xNbr, if_neg (by omega), xNbr_xNbr]

/-- Row `32 k + j` of the half that `c` computes, on `c` itself and on its `x` neighbour. -/
theorem result_row (c e : Dev nD) (he : e = c ∨ e = xNbr c) (k : Fin 8) (j : Fin 32) (l : Fin 512) :
    result p r g e (ix2 (row c k j) l) = normed p r g c (ix3 k j l) := by
  have hk := k.isLt; have hj := j.isLt; have hc := half_lt c
  show normed p r g (source e (row c k j)) (ix3 _ _ l) = _
  rw [source_row c k j e he]
  congr 2
  · exact Fin.ext (by show (256 * (c.val / 8) + 32 * k.val + j.val) % 256 / 32 = k.val; omega)
  · exact Fin.ext (by show (256 * (c.val / 8) + 32 * k.val + j.val) % 32 = j.val; omega)

/-- The second leg's chunk `k` from `d` is the `x` neighbour's result there. -/
theorem write_passed (d : Dev nD) (k : Fin 8) (f : Vec F S512x512 .f32) : ∀ i ∈ (oC d k).view.set,
    (oC d k).view.write (Elt F) f ((bC k).view.read (Elt F) (normed p r g d)) Finset.univ i = result p r g (xNbr d) i := by
  intro i hi
  obtain ⟨x, -, rfl⟩ := Finset.mem_map.mp hi
  rw [View.write_emb_of_mem _ _ (Finset.mem_univ x)]
  show normed p r g d ((bC k).view.emb x) = result p r g (xNbr d) ((oC d k).view.emb x)
  rw [emb_bC, emb_oC]
  exact (result_row p r g d (xNbr d) (.inr rfl) k (x 0) (x 1)).symm

/-- The store of the own half is the result there. -/
theorem write_own (d : Dev nD) (f : Vec F S512x512 .f32) : ∀ i ∈ (oM.access (halfR d)).set,
    (oM.access (halfR d)).write (Elt F) f (k0_pay15 (bM.view.readAt (Elt F) bR.toLoadRect (normed p r g d))) Finset.univ i
      = result p r g d i := by
  intro i hi
  obtain ⟨x, -, rfl⟩ := Finset.mem_map.mp hi
  refine (View.write_emb_of_mem (v := oM.access (halfR d)) f _ (Finset.mem_univ x)).trans ?_
  have h0 : (x 0).val < 256 := (x 0).isLt
  have hb : bM.view.readAt (Elt F) bR.toLoadRect (normed p r g d) = normed p r g d :=
    Memref.readAt_unit_zero (Elt F) cc0_scratch2 (funext fun a => by fin_cases a <;> rfl) _ _
  rw [hb]
  show shapeCast S256x512 (normed p r g d) shapeCasts_S8x32x512_S256x512 x = result p r g d ((halfR d).emb x)
  rw [emb_halfR, shapeCast_apply (normed p r g d) shapeCasts_S8x32x512_S256x512 x
    (ix3 ⟨(x 0).val / 32, by omega⟩ ⟨(x 0).val % 32, by omega⟩ (x 1)) (by
      rw [Shape.rowMajor_val_three, Shape.rowMajor_val_two]
      show ((x 0).val / 32 * 32 + (x 0).val % 32) * 512 + (x 1).val = (x 0).val * 512 + (x 1).val
      omega)]
  refine (result_row p r g d d (.inl rfl) ⟨(x 0).val / 32, by omega⟩ ⟨(x 0).val % 32, by omega⟩ (x 1)).symm.trans ?_
  refine congrArg (fun i => result p r g d (ix2 i (x 1))) ?_
  exact Fin.ext (by show 256 * (d.val / 8) + 32 * ((x 0).val / 32) + (x 0).val % 32 = 256 * (d.val / 8) + (x 0).val; omega)

end Cert.Norm

end
-- ==== Proof.Protocol.lean ====
/- The protocol of the thirty-three semaphores of a device: what each unit or credit hands over, and in which order a
   device may wait. One round each: the handshake cell takes one unit from either neighbour; every transfer cell takes
   the credit of one chunk. -/
module

public import proofs.«01_k».proof.Proof.Contents
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the launch's own rounds, and this kernel's -/

abbrev UK : Type := URounds (GSem nD τ sig) Bool
abbrev UU : Type := UR sig nD τ × UK

local notation "𝕄" => MT nD τ sig Unit (Elt F) ℕ UU ℕ

abbrev EP : Emb (UR sig nD τ) (MT nD τ sig Unit (Elt F) ℕ UU ℕ) := embL
abbrev ER : Emb UK (MT nD τ sig Unit (Elt F) ℕ UU ℕ) := embR

/-! ## The cells -/

/-- The four transfer semaphores of chunk `k`: sent and received of the first leg, sent and received of the second. -/
abbrev legS (a : Fin 4) (k : Fin 8) : DmaSem sig := match a with
  | 0 => sA k | 1 => rA k | 2 => sB k | 3 => rB k

/-- A device's semaphores: the handshake's, and the four of each chunk. -/
abbrev semOf : Option (Fin 4 × Fin 8) → SemLoc sig
  | none => .reg barS
  | some (a, k) => .dma (legS a k)

abbrev barCell (c : Dev nD) : GSem nD τ sig := ((c : Thread nD τ), .reg barS)
abbrev legCell (a : Fin 4) (c : Dev nD) (k : Fin 8) : GSem nD τ sig := ((c : Thread nD τ), .dma (legS a k))
abbrev cellAt (x : Dev nD × Option (Fin 4 × Fin 8)) : GSem nD τ sig := ((x.1 : Thread nD τ), semOf x.2)

/-- Which of the four a transfer semaphore is, -/
def legOf (q : DmaSem sig) : ℕ := (q.val - 4) / 8
/-- and of which chunk. -/
def chunkOf (q : DmaSem sig) : Fin 8 := ⟨(q.val - 4) % 8, Nat.mod_lt _ (by decide)⟩

theorem legS_val (a : Fin 4) (k : Fin 8) : (legS a k).val = 4 + 8 * a.val + k.val := by
  revert a k; decide
theorem legOf_legS (a : Fin 4) (k : Fin 8) : legOf (legS a k) = a.val := by
  have := k.isLt; unfold legOf; rw [legS_val]; omega
theorem chunkOf_legS (a : Fin 4) (k : Fin 8) : chunkOf (legS a k) = k := by
  have := k.isLt; exact Fin.ext (by show ((legS a k).val - 4) % 8 = _; rw [legS_val]; omega)

/-! ## What is handed over -/

variable (p : Dev nD → Vec F S1x512x512 .f32) (r : Dev nD → Vec F S512x512 .f32) (g : Dev nD → Vec F S512 .f32)

/-- Chunk `k` of device `c`'s own half of its partial block, at share `q`. -/
def pPts (c : Dev nD) (k : Fin 8) (q : PosShare TreeShare) : sProp 𝕄 :=
  (pC c k).view.loc (c : Thread nD τ) ↦[(pC c k).view.set]{q} p c
/-- Slot `k` of device `c`'s landing buffer, holding `f`. -/
def cPts (c : Dev nD) (k : Fin 8) (f : Vec F S8x32x512 .f32) : sProp 𝕄 :=
  (cC k).view.loc (c : Thread nD τ) ↦[(cC k).view.set]{fullShare} f
/-- Slot `k` of device `c`'s normalised chunks, holding `f`, at share `q`. -/
def bPts (c : Dev nD) (k : Fin 8) (q : PosShare TreeShare) (f : Vec F S8x32x512 .f32) : sProp 𝕄 :=
  (bC k).view.loc (c : Thread nD τ) ↦[(bC k).view.set]{q} f
/-- Chunk `k` of device `d`'s half of the rows, in device `c`'s result, holding `f`. -/
def oPts (c d : Dev nD) (k : Fin 8) (f : Vec F S512x512 .f32) : sProp 𝕄 :=
  (oC d k).view.loc (c : Thread nD τ) ↦[(oC d k).view.set]{fullShare} f

/-- What a neighbour's unit on device `c`'s handshake cell hands `c`: from the `y` neighbour (`false`) its eight landing
    slots, from the `x` neighbour (`true`) the eight chunks of its result that `c` computes. -/
def barPay (c : Dev nD) (b : Bool) : sProp 𝕄 :=
  if b then bigSep Finset.univ fun k : Fin 8 => iprop(∃ f, oPts (xNbr c) c k f)
  else bigSep Finset.univ fun k : Fin 8 => iprop(∃ f, cPts (yNbr c) k f)

/-- What the credit of a transfer hands its waiter: a sent chunk back, or a received chunk with its contents. -/
def legPay (c : Dev nD) (a : ℕ) (k : Fin 8) : sProp 𝕄 :=
  if a = 0 then pPts p c k fullShare.left
  else if a = 1 then cPts c k (landed p c)
  else if a = 2 then bPts c k fullShare.left (normed p r g c)
  else oPts c (xNbr c) k (result p r g c)

instance pPts_storable (c : Dev nD) (k : Fin 8) (q : PosShare TreeShare) : BI.Storable (upEmb : UEmb _ 𝕄) (pPts p c k q) := by
  unfold pPts; infer_instance
instance cPts_storable (c : Dev nD) (k : Fin 8) (f : Vec F S8x32x512 .f32) : BI.Storable (upEmb : UEmb _ 𝕄) (cPts (F := F) c k f) := by
  unfold cPts; infer_instance
instance bPts_storable (c : Dev nD) (k : Fin 8) (q : PosShare TreeShare) (f : Vec F S8x32x512 .f32) : BI.Storable (upEmb : UEmb _ 𝕄) (bPts (F := F) c k q f) := by
  unfold bPts; infer_instance
instance oPts_storable (c d : Dev nD) (k : Fin 8) (f : Vec F S512x512 .f32) : BI.Storable (upEmb : UEmb _ 𝕄) (oPts (F := F) c d k f) := by
  unfold oPts; infer_instance

/-- The schedule: one round, and what it hands over with its contents. -/
def sched : Rounds.Schedule (GSem nD τ sig) Bool 𝕄 where
  duties s n := if n = 0 then (match s.2 with | .reg _ => Finset.univ | .dma _ => {false}) else ∅
  unitless _ := False
  amount s _ _ := match s.2 with | .reg _ => 1 | .dma _ => N
  payload s _ b := match s.2 with | .reg _ => barPay s.1.1 b | .dma q => legPay p r g s.1.1 (legOf q) (chunkOf q)
  amount_pos s _ _ _ := by
    rcases s with ⟨_, _ | _⟩
    · exact Nat.one_pos
    · exact N_pos

instance sched_storable (s : GSem nD τ sig) (n : ℕ) (b : Bool) : BI.Storable (upEmb : UEmb _ 𝕄) ((sched p r g).payload s n b) := by
  rcases s with ⟨t, _ | q⟩
  · show BI.Storable upEmb (barPay t.1 b)
    unfold barPay; split <;> infer_instance
  · show BI.Storable upEmb (legPay p r g t.1 (legOf q) (chunkOf q))
    unfold legPay; (repeat' split) <;> infer_instance

section Sched
variable (c : Dev nD) (a : Fin 4) (k : Fin 8)

theorem duties_bar : (sched p r g).duties (barCell c) 0 = Finset.univ := rfl
theorem duties_leg : (sched p r g).duties (legCell a c k) 0 = {false} := rfl
theorem duties_later (s : GSem nD τ sig) : ∀ n, 1 ≤ n → (sched p r g).duties s n = ∅ :=
  fun n hn => by dsimp only [sched]; rw [if_neg (by omega)]
theorem amount_bar (b : Bool) : (sched p r g).amount (barCell c) 0 b = 1 := rfl
theorem amount_leg (b : Bool) : (sched p r g).amount (legCell a c k) 0 b = N := rfl

theorem expect_bar : (sched p r g).expect (barCell c) 0 = 2 := by
  unfold Schedule.expect Schedule.amountOf
  rw [duties_bar, Finset.sum_congr rfl fun b _ => amount_bar p r g c b]; rfl
theorem expect_leg : (sched p r g).expect (legCell a c k) 0 = N := by
  unfold Schedule.expect Schedule.amountOf; rw [duties_leg, Finset.sum_singleton, amount_leg]

theorem payload_bar (b : Bool) : (sched p r g).payload (barCell c) 0 b = barPay c b := rfl
theorem payload_leg (b : Bool) : (sched p r g).payload (legCell a c k) 0 b = legPay p r g c a.val k := by
  show legPay p r g c (legOf (legS a k)) (chunkOf (legS a k)) = _
  rw [legOf_legS, chunkOf_legS]

theorem pay_sA (b : Bool) : (sched p r g).payload (legCell 0 c k) 0 b = pPts p c k fullShare.left := by
  rw [payload_leg]; exact if_pos rfl
theorem pay_rA (b : Bool) : (sched p r g).payload (legCell 1 c k) 0 b = cPts c k (landed p c) := by
  rw [payload_leg]; exact (if_neg (by decide)).trans (if_pos rfl)
theorem pay_sB (b : Bool) : (sched p r g).payload (legCell 2 c k) 0 b = bPts c k fullShare.left (normed p r g c) := by
  rw [payload_leg]; exact (if_neg (by decide)).trans ((if_neg (by decide)).trans (if_pos rfl))
theorem pay_rB (b : Bool) : (sched p r g).payload (legCell 3 c k) 0 b = oPts c (xNbr c) k (result p r g c) := by
  rw [payload_leg]; exact (if_neg (by decide)).trans ((if_neg (by decide)).trans (if_neg (by decide)))

/-- The handshake's two units: the eight landing slots of one neighbour, the eight result chunks of the other. -/
theorem rest_bar : bigSep ((sched p r g).duties (barCell c) 0 \ ∅) (fun b => (sched p r g).payload (barCell c) 0 b)
    = iprop((bigSep Finset.univ fun k : Fin 8 => iprop(∃ f, cPts (F := F) (yNbr c) k f))
        ∗ bigSep Finset.univ fun k : Fin 8 => iprop(∃ f, oPts (F := F) (xNbr c) c k f)) := by
  rw [Finset.sdiff_empty, duties_bar, bigSep_univ_eq_bigSepL [false, true] (by decide) (by decide), bigSepL_cons_cons, bigSepL_singleton]
  rfl
theorem rest_leg : bigSep ((sched p r g).duties (legCell a c k) 0 \ ∅) (fun b => (sched p r g).payload (legCell a c k) 0 b)
    = (sched p r g).payload (legCell a c k) 0 false := by
  rw [Finset.sdiff_empty, duties_leg, bigSep_singleton]

end Sched

/-! ## What a device owes, and the levels -/

/-- The sum of `f k` over the chunks of a list, the first peeled last. -/
def total (f : Fin 8 → CellTallies nD τ sig Unit) : List (Fin 8) → CellTallies nD τ sig Unit
  | [] => 0
  | k :: ks => total f ks + f k

theorem total_apply (f : Fin 8 → CellTallies nD τ sig Unit) (s : GSem nD τ sig) (u : Unit) :
    ∀ l : List (Fin 8), total f l s u = (l.map fun k => f k s u).sum
  | [] => rfl
  | k :: ks => by
    show (total f ks + f k) s u = _
    rw [Pi.add_apply, Finsupp.add_apply, total_apply f s u ks, List.map_cons, List.sum_cons, Nat.add_comm]

/-- The received credit of the `y` neighbour's slot `k`, and of the `x` neighbour's result chunk `k`. -/
abbrev oweA (c : Dev nD) (k : Fin 8) : CellTallies nD τ sig Unit := tallyAt (legCell 1 (yNbr c) k) () N
abbrev oweB (c : Dev nD) (k : Fin 8) : CellTallies nD τ sig Unit := tallyAt (legCell 3 (xNbr c) k) () N

/-- What device `c` owes after the handshake: both legs' received credits. -/
def oweLegs (c : Dev nD) : CellTallies nD τ sig Unit := total (oweB c) chunks + total (oweA c) chunks
/-- What it owes at launch: those, and one unit to either neighbour's handshake cell. -/
def oweAll (c : Dev nD) : CellTallies nD τ sig Unit :=
  (oweLegs c + tallyAt (barCell (xNbr c)) () 1) + tallyAt (barCell (yNbr c)) () 1

def L (s : GSem nD τ sig) : Finset Unit := if s.1.2 = .tc then {()} else ∅
/-- The handshake below the first leg's received cells, these below the second's; everything else at the bottom. -/
def lv (s : GSem nD τ sig) (_ : Unit) : ℕ := match s.2 with
  | .reg _ => 1
  | .dma q => if legOf q = 1 then 2 else if legOf q = 3 then 3 else 0

theorem L_of_ne (s : GSem nD τ sig) (h : s.1.2 ≠ .tc) : L s = ∅ := if_neg h
theorem L_tc (c : Dev nD) (sm : SemLoc sig) : L ((c : Thread nD τ), sm) = {()} := if_pos rfl

theorem lv_bar (c : Dev nD) : lv (barCell c) () = 1 := rfl
theorem lv_leg (a : Fin 4) (c : Dev nD) (k : Fin 8) : lv (legCell a c k) () = if a.val = 1 then 2 else if a.val = 3 then 3 else 0 := by
  show (if legOf (legS a k) = 1 then 2 else if legOf (legS a k) = 3 then 3 else 0) = _
  rw [legOf_legS]

/-- Everything owed in `O` is on a TensorCore's cell at level `n` or above. -/
def Above (n : ℕ) (O : CellTallies nD τ sig Unit) : Prop := ∀ s u, 0 < O s u → s.1.2 = .tc ∧ n ≤ lv s ()

theorem above_zero (n : ℕ) : Above n 0 := fun s u h => absurd h (Nat.lt_irrefl 0)
theorem above_add {n : ℕ} {O O' : CellTallies nD τ sig Unit} (h : Above n O) (h' : Above n O') : Above n (O + O') := fun s u hs => by
  rw [Pi.add_apply, Finsupp.add_apply] at hs
  rcases Nat.eq_zero_or_pos (O s u) with h0 | h0
  · exact h' s u (by omega)
  · exact h s u h0
theorem above_tally {n : ℕ} {c : Dev nD} {sm : SemLoc sig} (v : ℕ) (h : n ≤ lv ((c : Thread nD τ), sm) ()) :
    Above n (tallyAt ((c : Thread nD τ), sm) () v) := fun s u hs => by
  rw [tallyAt_apply] at hs
  by_cases e : s = ((c : Thread nD τ), sm) ∧ u = ()
  · rw [e.1]; exact ⟨rfl, h⟩
  · rw [if_neg e] at hs; exact absurd hs (Nat.lt_irrefl 0)
theorem above_total {n : ℕ} {f : Fin 8 → CellTallies nD τ sig Unit} (h : ∀ k, Above n (f k)) : ∀ l, Above n (total f l)
  | [] => above_zero n
  | k :: ks => above_add (above_total h ks) (h k)
theorem above_mono {n n' : ℕ} (hn : n ≤ n') {O : CellTallies nD τ sig Unit} (h : Above n' O) : Above n O :=
  fun s u hs => ⟨(h s u hs).1, hn.trans (h s u hs).2⟩

theorem above_oweA (c : Dev nD) (k : Fin 8) : Above 2 (oweA c k) := above_tally N (by rw [lv_leg]; decide)
theorem above_oweB (c : Dev nD) (k : Fin 8) : Above 3 (oweB c k) := above_tally N (by rw [lv_leg]; decide)
theorem above_legs (c : Dev nD) : Above 2 (oweLegs c) :=
  above_add (above_total (fun k => above_mono (by decide) (above_oweB c k)) _) (above_total (above_oweA c) _)
theorem above_all (c : Dev nD) : Above 1 (oweAll c) :=
  above_add (above_add (above_mono (by decide) (above_legs c)) (above_tally 1 (by rw [lv_bar]))) (above_tally 1 (by rw [lv_bar]))

/-- A device may wait on a cell below everything it owes. -/
theorem mayWait (c : Dev nD) (sm : SemLoc sig) (O : CellTallies nD τ sig Unit) (h : Above (lv ((c : Thread nD τ), sm) () + 1) O) :
    (levAts L lv : sProp 𝕄) ⊢ MayWait (c : Thread nD τ) sm () O :=
  MayOwe.of_cut (L := L) (lev := lv) (lv ((c : Thread nD τ), sm) ())
    (fun x hx => by rw [Finset.mem_singleton.mp hx, L_tc]; exact Finset.mem_singleton_self _)
    (fun s u hs => by rw [show L s = {()} from if_pos (h s u hs).1]; exact Finset.mem_singleton_self _)
    (fun x hx => by rw [Finset.mem_singleton.mp hx])
    (fun s u hs => (h s u hs).2)

end Cert.Norm

end
-- ==== Proof.Steps.lean ====
/- The steps of the kernel, each for a chunk that is a variable: what a step needs and what it leaves. -/
module

public import proofs.«01_k».proof.Proof.Protocol
public import Idealize.ShloMosaic.Lib.Pipeline.BigSepL

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `x` on device `c` runs to `Q`. -/
abbrev runs (c : Dev nD) (x : P (F := F) PUnit) (Q : PUnit → sProp 𝕄) : sProp 𝕄 :=
  wp frame (wpE (defs₀ (F := F)) 𝒱₀ (c : Thread nD τ) none) Set.univ x Q

variable (p : Dev nD → Vec F S1x512x512 .f32) (r : Dev nD → Vec F S512x512 .f32) (g : Dev nD → Vec F S512 .f32)
variable (K : Dev nD × Option (Fin 4 × Fin 8) → ℕ)

/-! ## The facts every device shares -/

/-- Every cell's invariant, under the names `K`, and that every cell has reached its round. -/
def records : sProp 𝕄 :=
  iprop((bigSep Finset.univ fun x : Dev nD × Option (Fin 4 × Fin 8) => cellInv ER (sched p r g) (K x) (cellAt x))
    ∗ bigSep Finset.univ fun x : Dev nD × Option (Fin 4 × Fin 8) => reached ER (cellAt x) 0)

instance records_persistent : BI.Persistent (records p r g K) := by unfold records; infer_instance

theorem inv_any (x : Dev nD × Option (Fin 4 × Fin 8)) : records p r g K ⊢ cellInv ER (sched p r g) (K x) (cellAt x) := by
  unfold records
  exact (sep_elim_left).trans (bigSep_elim (Finset.mem_univ x))
theorem at_any (x : Dev nD × Option (Fin 4 × Fin 8)) : records p r g K ⊢ reached ER (cellAt x) 0 := by
  unfold records
  exact (sep_elim_right).trans (bigSep_elim (Finset.mem_univ x))

theorem inv_leg (a : Fin 4) (c : Dev nD) (k : Fin 8) :
    records p r g K ⊢ cellInv ER (sched p r g) (K (c, some (a, k))) (legCell a c k) := inv_any p r g K (c, some (a, k))
theorem inv_bar (c : Dev nD) : records p r g K ⊢ cellInv ER (sched p r g) (K (c, none)) (barCell c) := inv_any p r g K (c, none)
theorem at_leg (a : Fin 4) (c : Dev nD) (k : Fin 8) : records p r g K ⊢ reached ER (legCell a c k) 0 := at_any p r g K (c, some (a, k))
theorem at_bar (c : Dev nD) : records p r g K ⊢ reached ER (barCell c) 0 := at_any p r g K (c, none)

/-! ## A step for each chunk of a list -/

/-- If a step turns `A k` into `B k` and pays `f k` of what is owed, the steps of a list turn all `A` into all `B`. -/
theorem runs_each (c : Dev nD) (n : ℕ) (R : sProp 𝕄) (A B : Fin 8 → sProp 𝕄) (O : CellTallies nD τ sig Unit)
    (f : Fin 8 → CellTallies nD τ sig Unit) (x : Fin 8 → P (F := F) PUnit) (hO : Above n O) (hf : ∀ k, Above n (f k))
    (hstep : ∀ k O' Q, Above n (O' + f k) →
      iprop(R ∗ A k ∗ (∃ W, owes (c : Thread nD τ) (O' + f k) W) ∗ ((R ∗ B k ∗ ∃ W, owes (c : Thread nD τ) O' W) -∗ Q ⟨⟩)) ⊢ runs c (x k) Q) :
    ∀ (l : List (Fin 8)) (Q : PUnit → sProp 𝕄),
      iprop(R ∗ bigSepL l A ∗ (∃ W, owes (c : Thread nD τ) (O + total f l) W) ∗ ((R ∗ bigSepL l B ∗ ∃ W, owes (c : Thread nD τ) O W) -∗ Q ⟨⟩))
        ⊢ runs c (each l x) Q
  | [], Q => by
    show _ ⊢ wp _ _ _ (Prog.ret _) _
    rw [wp_ret]
    iintro ⟨HR, -, HO, Hk⟩
    imodintro
    iapply Hk
    isplitl [HR]; · iexact HR
    isplitr; · rw [bigSepL_nil]; iempintro
    rw [show O + total f [] = O from add_zero O]
    iexact HO
  | k :: ks, Q => by
    show _ ⊢ wp _ _ _ (x k >>= fun _ => each ks x) _
    rw [wp_bind, bigSepL_cons', bigSepL_cons', show O + total f (k :: ks) = (O + total f ks) + f k from (add_assoc _ _ _).symm]
    iintro ⟨HR, ⟨HA, HAs⟩, HO, Hk⟩
    iapply (hstep k (O + total f ks) _ (above_add (above_add hO (above_total hf ks)) (hf k)))
    isplitl [HR]; · iexact HR
    isplitl [HA]; · iexact HA
    isplitl [HO]; · iexact HO
    iintro ⟨HR, HB, HO⟩
    iapply (runs_each c n R A B O f x hO hf hstep ks Q)
    isplitl [HR]; · iexact HR
    isplitl [HAs]; · iexact HAs
    isplitl [HO]; · iexact HO
    iintro ⟨HR, HBs, HO⟩
    iapply Hk
    isplitl [HR]; · iexact HR
    isplitl [HB HBs]
    · isplitl [HB] <;> iassumption
    iexact HO

/-! ## A wait for a transfer's credit -/

/-- Waiting for the credit of a chunk's transfer: its payload, and the cell's counter back at zero. -/
theorem runs_wait (a : Fin 4) (c : Dev nD) (k : Fin 8) {s s' : Memref sig .tc .vmem S32x512 .f32}
    (hs : s'.view.dmaCredit = N) {hx : s.view.WordExact} {hx' : s'.view.WordExact}
    (O : CellTallies nD τ sig Unit) (hO : Above (lv (legCell a c k) () + 1) O) (Q : PUnit → sProp 𝕄) (rest : PUnit → P (F := F) PUnit) :
    iprop(records p r g K ∗ levAts L lv ∗ cred (tallyAt (legCell a c k) () N) ∗ atPos ER (legCell a c k) 0 ∅ 0 ∗ (∃ W, owes (c : Thread nD τ) O W)
        ∗ ((legPay p r g c a.val k ∗ semVal (legCell a c k) 0 ∗ ∃ W, owes (c : Thread nD τ) O W) -∗ runs c (rest ⟨⟩) Q))
      ⊢ runs c (.op (.waitDma2 (legS a k) s s' hx hx') rest) Q := by
  iintro ⟨#HR, #Hlev, Hc, Hat, ⟨%W, HO⟩, Hk⟩
  ihave #HI := (inv_leg p r g K a c k) $$ HR
  iapply (Rounds.wp_wait_rest_token 𝒱₀ ER (sched p r g) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, expect_leg])) $$ [Hc HO Hat]
  · isplitr; · iexact HI
    isplitl [Hc]; · iexact Hc
    isplitl [HO]; · iexact HO
    isplitr; · iapply (mayWait c (.dma (legS a k)) O hO); iexact Hlev
    iexact Hat
  iintro ⟨HO, Hat, -, Hpay⟩
  ihave Hp := (Entails.of_eq ((rest_leg p r g c a k).trans (payload_leg p r g c a k false))) $$ Hpay
  imod (Rounds.cell_close ER (sched p r g) (Set.mem_univ (K (c, some (a, k)))) (fun h => h) (R := 0 + 1) (duties_later p r g (legCell a c k))) $$ [Hat] with Hz
  · isplitr; · iexact HI
    iexact Hat
  iapply Hk
  isplitl [Hp]; · iexact Hp
  isplitl [Hz]; · iexact Hz
  iexists _; iexact HO

/-! ## A remote copy of a chunk -/

/-- Sending a chunk: the source's elements go to the sent cell, the target's elements with what lands in them to the
    received cell of the other device, whose credit is no longer owed; the sent credit is to be waited for. -/
theorem runs_send (a a' : Fin 4) (c c' : Dev nD) (k : Fin 8) {s s' : Memref sig .tc .vmem S32x512 .f32} (hs : s'.view.dmaCredit = N)
    {hsc : s'.view.ref.isScScratch = false} {hx : s.view.WordExact} {hx' : s'.view.WordExact}
    {hsem : DmaTarget.Typed .vmem (.dma (legS a' k)) (.remote (Dev.tc c' : Thread nD τ) s' (.dma (legS a k)) hsc)}
    (q : PosShare TreeShare) (f : Buf (Elt F) (s.view.loc (c : Thread nD τ))) (f' : Buf (Elt F) (s'.view.loc (c' : Thread nD τ)))
    (h : (s.view.loc (c : Thread nD τ) ↦[s.view.set]{q} f : sProp 𝕄) = legPay p r g c a.val k)
    (h' : (s'.view.loc (c' : Thread nD τ) ↦[s'.view.set]{fullShare} s'.view.write (Elt F) f' (s.view.read (Elt F) f) Finset.univ : sProp 𝕄)
      = legPay p r g c' a'.val k)
    (O : CellTallies nD τ sig Unit) (Q : PUnit → sProp 𝕄) (rest : PUnit → P (F := F) PUnit) :
    iprop(records p r g K ∗ (s.view.loc (c : Thread nD τ) ↦[s.view.set]{q} f) ∗ (s'.view.loc (c' : Thread nD τ) ↦[s'.view.set]{fullShare} f')
        ∗ dutyTok ER (legCell a c k) 0 false ∗ dutyTok ER (legCell a' c' k) 0 false
        ∗ (∃ W, owes (c : Thread nD τ) (O + tallyAt (legCell a' c' k) () N) W)
        ∗ ((cred (tallyAt (legCell a c k) () N) ∗ ∃ W, owes (c : Thread nD τ) O W) -∗ runs c (rest ⟨⟩) Q))
      ⊢ runs c (.op (.enqueueDma s (.remote (Dev.tc c' : Thread nD τ) s' (.dma (legS a k)) hsc) (.dma (legS a' k)) hx hx' hsem) rest) Q := by
  iintro ⟨#HR, Hs, Hs', Ht, Ht', ⟨%W, HO⟩, Hk⟩
  ihave #HI := (inv_leg p r g K a c k) $$ HR
  ihave #HI' := (inv_leg p r g K a' c' k) $$ HR
  ihave #Ha := (at_leg p r g K a c k) $$ HR
  ihave #Ha' := (at_leg p r g K a' c' k) $$ HR
  iapply (Rounds.wp_send_pointsTo 𝒱₀ ER (sched p r g) (c : Thread nD τ) none (κ₁ := K (c, some (a, k))) (κ₂ := K (c', some (a', k)))
    (r₁ := 0) (r₂ := 0) (d₁ := false) (d₂ := false) (fd := f')
    (by rw [duties_leg p r g c a k]; exact Finset.mem_singleton_self _) (by rw [duties_leg p r g c' a' k]; exact Finset.mem_singleton_self _)
    () () N (show s'.view.amount (.dma (legS a' k)) = N from hs) (amount_leg p r g c a k false) (amount_leg p r g c' a' k false) O rfl (W := W)
    (by rw [payload_leg p r g c a k]; exact Entails.of_eq h)
    (by rw [payload_leg p r g c' a' k]; exact Entails.of_eq h')) $$ [Hs Hs' HO Ht Ht']
  · isplitr; · iexact HI
    isplitr; · iexact HI'
    isplitl [Hs]; · iexact Hs
    isplitl [Hs']; · iexact Hs'
    isplitl [HO]; · iexact HO
    isplitl [Ht]; · iexact Ht
    isplitr; · iexact Ha
    isplitl [Ht']; · iexact Ht'
    iexact Ha'
  iintro ⟨Hcr, HO⟩
  iapply Hk
  isplitl [Hcr]; · iexact Hcr
  iexists W; iexact HO

/-- A finished program is at its postcondition. -/
theorem runs_done (c : Dev nD) (Q : PUnit → sProp 𝕄) : Q ⟨⟩ ⊢ runs c (.ret ⟨⟩) Q := by
  show _ ⊢ wp _ _ _ (Prog.ret _) _
  rw [wp_ret]
  iintro H
  imodintro
  iexact H

/-! ## The first leg's copies -/

/-- What sending chunk `k` of the first leg takes; it leaves the sent credit to be waited for. -/
def sendPre (c : Dev nD) (k : Fin 8) : sProp 𝕄 :=
  iprop(pPts p c k fullShare.left ∗ (∃ f, cPts (yNbr c) k f) ∗ dutyTok ER (legCell 0 c k) 0 false ∗ dutyTok ER (legCell 1 (yNbr c) k) 0 false)

theorem sent_pts (c : Dev nD) (k : Fin 8) :
    ((pC c k).view.loc (c : Thread nD τ) ↦[(pC c k).view.set]{fullShare.left} p c : sProp 𝕄) = legPay p r g c (0 : Fin 4).val k :=
  ((payload_leg p r g c 0 k false).symm.trans (pay_sA p r g c k false)).symm
theorem landed_pts (c : Dev nD) (k : Fin 8) (f : Vec F S8x32x512 .f32) :
    ((cC k).view.loc (yNbr c : Thread nD τ) ↦[(cC k).view.set]{fullShare}
        (cC k).view.write (Elt F) f ((pC c k).view.read (Elt F) (p c)) Finset.univ : sProp 𝕄)
      = legPay p r g (yNbr c) (1 : Fin 4).val k :=
  (pointsTo_congr (write_landed p c k f)).trans ((payload_leg p r g (yNbr c) 1 k false).symm.trans (pay_rA p r g (yNbr c) k false)).symm

theorem runs_sendA (c : Dev nD) (k : Fin 8) (O : CellTallies nD τ sig Unit) (Q : PUnit → sProp 𝕄) :
    iprop(records p r g K ∗ sendPre p c k ∗ (∃ W, owes (c : Thread nD τ) (O + oweA c k) W)
        ∗ ((records p r g K ∗ cred (tallyAt (legCell 0 c k) () N) ∗ ∃ W, owes (c : Thread nD τ) O W) -∗ Q ⟨⟩))
      ⊢ runs c (sendA c k) Q := by
  unfold sendA sendPre pPts cPts
  iintro ⟨#HR, ⟨Hp, ⟨%f, Hc⟩, Ht, Ht'⟩, HO, Hk⟩
  iapply (runs_send p r g K 0 1 c (yNbr c) k (s := pC c k) (s' := cC k) (credit_c k) fullShare.left (p c) f (sent_pts p r g c k) (landed_pts p r g c k f) O Q _)
  isplitr; · iexact HR
  isplitl [Hp]; · iexact Hp
  isplitl [Hc]; · iexact Hc
  isplitl [Ht]; · iexact Ht
  isplitl [Ht']; · iexact Ht'
  isplitl [HO]; · iexact HO
  iintro ⟨Hcr, HO⟩
  iapply (runs_done c Q)
  iapply Hk
  isplitr; · iexact HR
  isplitl [Hcr]; · iexact Hcr
  iexact HO

/-! ## The eight chunks -/

/-- The whole partial block, residual, scale, partial sum of device `c`. -/
def pWhole (c : Dev nD) (q : PosShare TreeShare) (f : Vec F S1x512x512 .f32) : sProp 𝕄 := pM.view.loc (c : Thread nD τ) ↦[Finset.univ]{q} f
def rWhole (c : Dev nD) (f : Vec F S512x512 .f32) : sProp 𝕄 := rM.view.loc (c : Thread nD τ) ↦[Finset.univ]{fullShare} f
def gWhole (c : Dev nD) (f : Vec F S512 .f32) : sProp 𝕄 := gM.view.loc (c : Thread nD τ) ↦[Finset.univ]{fullShare} f
def tWhole (c : Dev nD) (f : Vec F S256x512 .f32) : sProp 𝕄 := tM.view.loc (c : Thread nD τ) ↦[Finset.univ]{fullShare} f

/-- What a chunk's step takes and leaves in the same state: the shared facts, the partial sum and the scale. -/
def chunkR (c : Dev nD) : sProp 𝕄 := iprop(records p r g K ∗ levAts L lv ∗ tWhole c (sumOf p r c) ∗ gWhole c (g c))
/-- What it takes: the received credit to come, the chunk's elements on both sides, and the second leg's duties. -/
def chunkPre (c : Dev nD) (k : Fin 8) : sProp 𝕄 :=
  iprop(cred (tallyAt (legCell 1 c k) () N) ∗ atPos ER (legCell 1 c k) 0 ∅ 0 ∗ (∃ f, bPts (F := F) c k fullShare f)
    ∗ (∃ f, oPts (F := F) (xNbr c) c k f) ∗ dutyTok ER (legCell 2 c k) 0 false ∗ dutyTok ER (legCell 3 (xNbr c) k) 0 false)
/-- What it leaves: the landed chunk, half a share of the normalised chunk, the received cell at zero, and the sent credit. -/
def chunkPost (c : Dev nD) (k : Fin 8) : sProp 𝕄 :=
  iprop(cPts c k (landed p c) ∗ semVal (legCell 1 c k) 0 ∗ bPts c k fullShare.right (normed p r g c) ∗ cred (tallyAt (legCell 2 c k) () N))

theorem setOn_cM (k : Fin 8) : cM.view.setOn (slotR k).toLoadRect.set ⊆ (cC k).view.set := by
  exact ((View.set_slice _ _).symm.trans ((View.set_slice_whole cc0_scratch0 (slotR k)).trans (set_cC k).symm)).subset
theorem setOn_bM (k : Fin 8) : bM.view.setOn (slotR k).toLoadRect.set ⊆ (bC k).view.set := by
  exact ((View.set_slice _ _).symm.trans ((View.set_slice_whole cc0_scratch2 (slotR k)).trans (set_bC k).symm)).subset
theorem setOn_bStore (k : Fin 8) : (bM.access (slotR k)).setOn Finset.univ ⊆ (bC k).view.set := by
  rw [set_bC, ← View.set_slice_whole cc0_scratch2]; exact Finset.Subset.refl _

theorem passed_pts (c : Dev nD) (k : Fin 8) (f : Vec F S512x512 .f32) :
    ((oC c k).view.loc (xNbr c : Thread nD τ) ↦[(oC c k).view.set]{fullShare}
        (oC c k).view.write (Elt F) f ((bC k).view.read (Elt F) (normed p r g c)) Finset.univ : sProp 𝕄)
      = legPay p r g (xNbr c) (3 : Fin 4).val k :=
  ((pointsTo_congr (write_passed p r g c k f)).trans (by unfold oPts; rw [xNbr_xNbr] :
      _ = oPts (xNbr c) (xNbr (xNbr c)) k (result p r g (xNbr c)))).trans
    ((payload_leg p r g (xNbr c) 3 k false).symm.trans (pay_rB p r g (xNbr c) k false)).symm
theorem kept_pts (c : Dev nD) (k : Fin 8) :
    ((bC k).view.loc (c : Thread nD τ) ↦[(bC k).view.set]{fullShare.left} normed p r g c : sProp 𝕄) = legPay p r g c (2 : Fin 4).val k :=
  ((payload_leg p r g c 2 k false).symm.trans (pay_sB p r g c k false)).symm

theorem runs_chunk (c : Dev nD) (k : Fin 8) (O : CellTallies nD τ sig Unit) (hO : Above 3 (O + oweB c k)) (Q : PUnit → sProp 𝕄) :
    iprop(chunkR p r g K c ∗ chunkPre c k ∗ (∃ W, owes (c : Thread nD τ) (O + oweB c k) W)
        ∗ ((chunkR p r g K c ∗ chunkPost p r g c k ∗ ∃ W, owes (c : Thread nD τ) O W) -∗ Q ⟨⟩))
      ⊢ runs c (chunk c k) Q := by
  unfold chunk chunkR chunkPre chunkPost tWhole gWhole
  iintro ⟨⟨#HR, #Hlev, HT, HG⟩, ⟨Hcr, Hat, ⟨%fb, Hb⟩, ⟨%fo, Ho⟩, Ht, Ht'⟩, HO, Hk⟩
  iapply (runs_wait p r g K 1 c k (s := pC c k) (s' := cC k) (credit_c k) (O + oweB c k) (by rw [lv_leg]; exact hO) Q _)
  isplitr; · iexact HR
  isplitr; · iexact Hlev
  isplitl [Hcr]; · iexact Hcr
  isplitl [Hat]; · iexact Hat
  isplitl [HO]; · iexact HO
  iintro ⟨Hc, Hz, HO⟩
  ihave Hc := (Entails.of_eq ((payload_leg p r g c 1 k false).symm.trans (pay_rA p r g c k false))) $$ Hc
  unfold cPts
  iapply (wp_load 𝒱₀ (c : Thread nD τ) none Set.univ (m := tM) (Finset.subset_univ _)) $$ HT; iintro HT
  iapply (wp_load 𝒱₀ (c : Thread nD τ) none Set.univ (m := cM) (setOn_cM k)) $$ Hc; iintro Hc
  iapply (wp_load 𝒱₀ (c : Thread nD τ) none Set.univ (m := gM) (Finset.subset_univ _)) $$ HG; iintro HG
  unfold bPts
  iapply (wp_load 𝒱₀ (c : Thread nD τ) none Set.univ (m := bM) (setOn_bM k)) $$ Hb; iintro Hb
  iapply (wp_store 𝒱₀ (c : Thread nD τ) none Set.univ (m := bM) (r := slotR k) (Mk := Finset.univ) (setOn_bStore k)) $$ Hb; iintro Hb
  ihave Hb := (Entails.of_eq (pointsTo_congr (write_normed p r g c k fb))) $$ Hb
  ihave Hb := (pointsTo_share (PosShare.mem_left_op_right fullShare)).1 $$ Hb
  icases Hb with ⟨Hbl, Hbr⟩
  unfold oPts
  iapply (runs_send p r g K 2 3 c (xNbr c) k (s := bC k) (s' := oC c k) (credit_o c k) fullShare.left (normed p r g c) fo (kept_pts p r g c k) (passed_pts p r g c k fo) O Q _)
  isplitr; · iexact HR
  isplitl [Hbl]; · iexact Hbl
  isplitl [Ho]; · iexact Ho
  isplitl [Ht]; · iexact Ht
  isplitl [Ht']; · iexact Ht'
  isplitl [HO]; · iexact HO
  iintro ⟨Hcr, HO⟩
  iapply (runs_done c Q)
  iapply Hk
  isplitl [HT HG]
  · isplitr; · iexact HR
    isplitr; · iexact Hlev
    isplitl [HT] <;> iassumption
  isplitr [HO]
  · isplitl [Hc]; · iexact Hc
    isplitl [Hz]; · iexact Hz
    isplitl [Hbr]; · iexact Hbr
    iexact Hcr
  iexact HO

/-! ## The partial sum and the own half of the result -/

theorem zero3 : (![0, 0, 0] : Fin 3 → Nat) = fun _ => 0 := funext fun a => by fin_cases a <;> rfl
theorem zero2 : (![0, 0] : Fin 2 → Nat) = fun _ => 0 := funext fun a => by fin_cases a <;> rfl

theorem runs_addOwn (c : Dev nD) (Q : PUnit → sProp 𝕄) :
    iprop(pWhole c fullShare.right (p c) ∗ rWhole c (r c) ∗ (∃ f, tWhole (F := F) c f)
        ∗ ((pWhole c fullShare.right (p c) ∗ rWhole c (r c) ∗ tWhole c (sumOf p r c)) -∗ Q ⟨⟩))
      ⊢ runs c (addOwn c) Q := by
  unfold addOwn pWhole rWhole tWhole
  iintro ⟨HP, HR, ⟨%f, HT⟩, Hk⟩
  iapply (wp_load 𝒱₀ (c : Thread nD τ) none Set.univ (m := pM) (Finset.subset_univ _)) $$ HP; iintro HP
  iapply (wp_load 𝒱₀ (c : Thread nD τ) none Set.univ (m := rM) (Finset.subset_univ _)) $$ HR; iintro HR
  iapply (wp_load 𝒱₀ (c : Thread nD τ) none Set.univ (m := tM) (Finset.subset_univ _)) $$ HT; iintro HT
  iapply (wp_store 𝒱₀ (c : Thread nD τ) none Set.univ (m := tM) (r := tR) (Mk := Finset.univ) (Finset.subset_univ _)) $$ HT; iintro HT
  iapply (runs_done c Q)
  iapply Hk
  isplitl [HP]; · iexact HP
  isplitl [HR]; · iexact HR
  rw [show (tM.access tR).write (Elt F) f (k0_pay1 (pM.view.readAt (Elt F) (pHalfR c).toLoadRect (p c)) (rM.view.readAt (Elt F) (halfR c).toLoadRect (r c))) Finset.univ
      = sumOf p r c from Memref.write_access_unit_zero_univ (Elt F) cc0_scratch1 zero2 _ f _]
  iexact HT

/-- The eight normalised chunks as one array. -/
def bWhole (c : Dev nD) (q : PosShare TreeShare) (f : Vec F S8x32x512 .f32) : sProp 𝕄 := bM.view.loc (c : Thread nD τ) ↦[Finset.univ]{q} f
/-- Device `d`'s half of the rows, in device `c`'s result. -/
def oHalf (c d : Dev nD) (f : Vec F S512x512 .f32) : sProp 𝕄 := oM.view.loc (c : Thread nD τ) ↦[(halfR d).set]{fullShare} f

theorem setOn_oM (d : Dev nD) : oM.view.setOn (halfR d).toLoadRect.set ⊆ (halfR d).set :=
  ((View.set_slice _ _).symm.trans (set_half d)).subset
theorem setOn_oStore (d : Dev nD) : (oM.access (halfR d)).setOn Finset.univ ⊆ (halfR d).set := (set_half d).subset

theorem own_pts (c : Dev nD) (f : Vec F S512x512 .f32) :
    ((oM.access (halfR c)).loc (c : Thread nD τ) ↦[(halfR c).set]{fullShare}
        (oM.access (halfR c)).write (Elt F) f (k0_pay15 (bM.view.readAt (Elt F) bR.toLoadRect (normed p r g c))) Finset.univ : sProp 𝕄)
      ⊢ oHalf c c (result p r g c) :=
  Entails.of_eq (pointsTo_congr fun i hi => write_own p r g c f i (by rw [set_half]; exact hi))

theorem runs_storeOwn (c : Dev nD) (Q : PUnit → sProp 𝕄) :
    iprop(bWhole c fullShare.right (normed p r g c) ∗ (∃ f, oHalf (F := F) c c f)
        ∗ ((bWhole c fullShare.right (normed p r g c) ∗ oHalf c c (result p r g c)) -∗ Q ⟨⟩))
      ⊢ runs c (storeOwn c) Q := by
  unfold storeOwn bWhole
  iintro ⟨HB, ⟨%f, HO⟩, Hk⟩
  ihave HO := (show oHalf (F := F) c c f ⊢ (oM.view.loc (c : Thread nD τ) ↦[(halfR c).set]{fullShare} f) from Entails.refl) $$ HO
  iapply (wp_load 𝒱₀ (c : Thread nD τ) none Set.univ (m := bM) (Finset.subset_univ _)) $$ HB; iintro HB
  iapply (wp_load 𝒱₀ (c : Thread nD τ) none Set.univ (m := oM) (setOn_oM c)) $$ HO; iintro HO
  iapply (wp_store 𝒱₀ (c : Thread nD τ) none Set.univ (m := oM) (r := halfR c) (Mk := Finset.univ) (setOn_oStore c)) $$ HO; iintro HO
  iapply (runs_done c Q)
  iapply Hk
  isplitl [HB]; · iexact HB
  iapply (own_pts p r g c f)
  iexact HO

/-! ## The waits at the end -/

def waitR : sProp 𝕄 := iprop(records p r g K ∗ levAts L lv)
instance waitR_persistent : BI.Persistent (waitR p r g K) := by unfold waitR; infer_instance
/-- The sent credit of a cell, and the place at it, -/
def due (a : Fin 4) (c : Dev nD) (k : Fin 8) : sProp 𝕄 := iprop(cred (tallyAt (legCell a c k) () N) ∗ atPos ER (legCell a c k) 0 ∅ 0)
/-- and what the wait makes of them. -/
def got (a : Fin 4) (c : Dev nD) (k : Fin 8) : sProp 𝕄 := iprop(legPay p r g c a.val k ∗ semVal (legCell a c k) 0)

theorem runs_waitA (c : Dev nD) (k : Fin 8) (O : CellTallies nD τ sig Unit) (hO : Above 4 O) (Q : PUnit → sProp 𝕄) :
    iprop(waitR p r g K ∗ due 0 c k ∗ (∃ W, owes (c : Thread nD τ) O W)
        ∗ ((waitR p r g K ∗ got p r g 0 c k ∗ ∃ W, owes (c : Thread nD τ) O W) -∗ Q ⟨⟩))
      ⊢ runs c (waitA c k) Q := by
  unfold waitA waitR due got
  iintro ⟨⟨#HR, #Hlev⟩, ⟨Hcr, Hat⟩, HO, Hk⟩
  iapply (runs_wait p r g K 0 c k (s := cC k) (s' := pC c k) (credit_p c k) O (above_mono (by rw [lv_leg]; decide) hO) Q _)
  isplitr; · iexact HR
  isplitr; · iexact Hlev
  isplitl [Hcr]; · iexact Hcr
  isplitl [Hat]; · iexact Hat
  isplitl [HO]; · iexact HO
  iintro ⟨Hp, Hz, HO⟩
  iapply (runs_done c Q)
  iapply Hk
  isplitr
  · isplitr; · iexact HR
    iexact Hlev
  isplitl [Hp Hz]
  · isplitl [Hp] <;> iassumption
  iexact HO

theorem runs_waitB (c : Dev nD) (k : Fin 8) (O : CellTallies nD τ sig Unit) (hO : Above 4 O) (Q : PUnit → sProp 𝕄) :
    iprop(waitR p r g K ∗ (due 2 c k ∗ due 3 c k) ∗ (∃ W, owes (c : Thread nD τ) O W)
        ∗ ((waitR p r g K ∗ (got p r g 2 c k ∗ got p r g 3 c k) ∗ ∃ W, owes (c : Thread nD τ) O W) -∗ Q ⟨⟩))
      ⊢ runs c (waitB c k) Q := by
  unfold waitB waitR due got
  iintro ⟨⟨#HR, #Hlev⟩, ⟨⟨Hcr, Hat⟩, Hcr', Hat'⟩, HO, Hk⟩
  iapply (runs_wait p r g K 2 c k (s := oC c k) (s' := bC k) (credit_b k) O (above_mono (by rw [lv_leg]; decide) hO) Q _)
  isplitr; · iexact HR
  isplitr; · iexact Hlev
  isplitl [Hcr]; · iexact Hcr
  isplitl [Hat]; · iexact Hat
  isplitl [HO]; · iexact HO
  iintro ⟨Hp, Hz, HO⟩
  iapply (runs_wait p r g K 3 c k (s := bC k) (s' := oC c k) (credit_o c k) O (above_mono (by rw [lv_leg]; decide) hO) Q _)
  isplitr; · iexact HR
  isplitr; · iexact Hlev
  isplitl [Hcr']; · iexact Hcr'
  isplitl [Hat']; · iexact Hat'
  isplitl [HO]; · iexact HO
  iintro ⟨Hp', Hz', HO⟩
  iapply (runs_done c Q)
  iapply Hk
  isplitr
  · isplitr; · iexact HR
    iexact Hlev
  isplitl [Hp Hz Hp' Hz']
  · isplitl [Hp Hz]
    · isplitl [Hp] <;> iassumption
    · isplitl [Hp'] <;> iassumption
  iexact HO

end Cert.Norm

end
-- ==== Proof.Buffers.lean ====
/- A device's buffers taken apart into the chunks that travel, and put together again. -/
module

public import proofs.«01_k».proof.Proof.Steps

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A resource for each of the eight chunks. -/
abbrev all (Φ : Fin 8 → sProp 𝕄) : sProp 𝕄 := bigSep Finset.univ Φ

theorem all_eq (Φ : Fin 8 → sProp 𝕄) : all Φ = bigSepL chunks Φ := bigSep_univ_eq_bigSepL chunks (by decide) (by decide) Φ

variable (p : Dev nD → Vec F S1x512x512 .f32) (r : Dev nD → Vec F S512x512 .f32) (g : Dev nD → Vec F S512 .f32)

/-! ## Taking a set of elements apart -/

/-- Elements in eight disjoint parts are the eight parts. -/
theorem in_parts {ℓ : Loc nD τ sig} (q : PosShare TreeShare) (f : Buf (Elt F) ℓ) (S : Finset (Idx ℓ)) (A : Fin 8 → Finset (Idx ℓ))
    (hd : ∀ k k', k ≠ k' → Disjoint (A k) (A k')) (hc : ∀ i, i ∈ S ↔ ∃ k, i ∈ A k) :
    (ℓ ↦[S]{q} f : sProp 𝕄) = all fun k => ℓ ↦[A k]{q} f := by
  have e : S = Finset.univ.biUnion A := by
    ext i
    rw [hc, Finset.mem_biUnion]
    exact ⟨fun ⟨k, h⟩ => ⟨k, Finset.mem_univ k, h⟩, fun ⟨k, _, h⟩ => ⟨k, h⟩⟩
  rw [e]
  exact pointsTo_biUnion Finset.univ A fun k _ k' _ h => hd k k' h

/-- Elements in two disjoint parts are the two parts. -/
theorem in_two {ℓ : Loc nD τ sig} (q : PosShare TreeShare) (f : Buf (Elt F) ℓ) (S A B : Finset (Idx ℓ))
    (hA : A ⊆ S) (hB : ∀ i, i ∈ B ↔ i ∈ S ∧ i ∉ A) :
    (ℓ ↦[S]{q} f : sProp 𝕄) ⊣⊢ iprop((ℓ ↦[A]{q} f) ∗ ℓ ↦[B]{q} f) := by
  have e : B = S \ A := by
    ext i
    rw [hB, Finset.mem_sdiff]
  rw [e]
  exact pointsTo_split_subset hA

/-! ## The partial block: half a share of its travelling rows, half a share of the rest, half a share of everything -/

/-- The rows of the partial block that device `c` sends, and the others. -/
def pSent (c : Dev nD) : Finset S1x512x512.Idx := Finset.univ.biUnion fun k : Fin 8 => (pC c k).view.set
def pOther (c : Dev nD) : Finset S1x512x512.Idx := Finset.univ \ pSent c
def pSentPts (c : Dev nD) : sProp 𝕄 := pM.view.loc (c : Thread nD τ) ↦[pSent c]{fullShare.left} p c
def pRest (c : Dev nD) : sProp 𝕄 := pM.view.loc (c : Thread nD τ) ↦[pOther c]{fullShare.left} p c

theorem mem_pSent (c : Dev nD) (i : S1x512x512.Idx) : i ∈ pSent c ↔ ∃ k : Fin 8, i ∈ (pC c k).view.set := by
  unfold pSent
  rw [Finset.mem_biUnion]
  exact ⟨fun ⟨k, _, h⟩ => ⟨k, h⟩, fun ⟨k, h⟩ => ⟨k, Finset.mem_univ k, h⟩⟩
theorem mem_pOther (c : Dev nD) (i : S1x512x512.Idx) : i ∈ pOther c ↔ i ∈ (Finset.univ : Finset S1x512x512.Idx) ∧ i ∉ pSent c := by
  unfold pOther
  rw [Finset.mem_sdiff]
theorem pC_disjoint (c : Dev nD) (k k' : Fin 8) (h : k ≠ k') : Disjoint (pC c k).view.set (pC c k').view.set := by
  rw [set_pC, set_pC]; exact pR_disjoint c h

theorem p_chunks (c : Dev nD) : (pSentPts p c : sProp 𝕄) = all fun k => pPts p c k fullShare.left :=
  in_parts (ℓ := pM.view.loc (c : Thread nD τ)) fullShare.left (p c) (pSent c) (fun k => (pC c k).view.set) (pC_disjoint c) (mem_pSent c)

theorem p_sent_rest (c : Dev nD) : (pWhole c fullShare.left (p c) : sProp 𝕄) ⊣⊢ iprop(pSentPts p c ∗ pRest p c) :=
  in_two (ℓ := pM.view.loc (c : Thread nD τ)) fullShare.left (p c) Finset.univ (pSent c) (pOther c) (Finset.subset_univ _) (mem_pOther c)

theorem p_shares (c : Dev nD) (f : Vec F S1x512x512 .f32) : (pWhole c fullShare f : sProp 𝕄) ⊣⊢ iprop(pWhole c fullShare.left f ∗ pWhole c fullShare.right f) :=
  pointsTo_share (PosShare.mem_left_op_right fullShare)

theorem p_split (c : Dev nD) :
    (pWhole c fullShare (p c) : sProp 𝕄) ⊢ iprop((all fun k => pPts p c k fullShare.left) ∗ pRest p c ∗ pWhole c fullShare.right (p c)) := by
  rw [← p_chunks]
  iintro H
  ihave H := (p_shares c (p c)).1 $$ H
  icases H with ⟨Hl, Hr⟩
  ihave Hl := (p_sent_rest p c).1 $$ Hl
  icases Hl with ⟨Hl, Hl'⟩
  isplitl [Hl]; · iexact Hl
  isplitl [Hl']; · iexact Hl'
  iexact Hr

theorem p_join (c : Dev nD) :
    iprop((all fun k => pPts p c k fullShare.left) ∗ pRest p c ∗ pWhole c fullShare.right (p c)) ⊢ (pWhole c fullShare (p c) : sProp 𝕄) := by
  rw [← p_chunks]
  iintro ⟨Hl, Hl', Hr⟩
  iapply (p_shares c (p c)).2
  isplitr [Hr]
  · iapply (p_sent_rest p c).2
    isplitl [Hl]; · iexact Hl
    iexact Hl'
  iexact Hr

/-! ## The landing buffer and the normalised chunks: eight slots -/

/-- The whole landing buffer. -/
def cWhole (c : Dev nD) (f : Vec F S8x32x512 .f32) : sProp 𝕄 := cM.view.loc (c : Thread nD τ) ↦[Finset.univ]{fullShare} f

theorem some_slot (A : Fin 8 → Finset S8x32x512.Idx) (h : ∀ k, A k = (slotR k).set) (i : S8x32x512.Idx) :
    i ∈ (Finset.univ : Finset S8x32x512.Idx) ↔ ∃ k, i ∈ A k :=
  ⟨fun _ => ⟨⟨(i 0).val, (i 0).isLt⟩, by rw [h]; exact (mem_slotR _ i).mpr rfl⟩, fun _ => Finset.mem_univ i⟩
theorem slots_disjoint (A : Fin 8 → Finset S8x32x512.Idx) (h : ∀ k, A k = (slotR k).set) (k k' : Fin 8) (hk : k ≠ k') : Disjoint (A k) (A k') := by
  rw [h, h]; exact slot_disjoint hk

theorem c_chunks (c : Dev nD) (f : Vec F S8x32x512 .f32) : cWhole c f = all fun k => cPts c k f :=
  in_parts (ℓ := cM.view.loc (c : Thread nD τ)) fullShare f Finset.univ (fun k => (cC k).view.set) (slots_disjoint _ set_cC) (some_slot _ set_cC)

theorem b_chunks (c : Dev nD) (q : PosShare TreeShare) (f : Vec F S8x32x512 .f32) : bWhole c q f = all fun k => bPts c k q f :=
  in_parts (ℓ := bM.view.loc (c : Thread nD τ)) q f Finset.univ (fun k => (bC k).view.set) (slots_disjoint _ set_bC) (some_slot _ set_bC)

/-- Chunks holding one array each hold some array. -/
theorem all_some {β : Type} (Φ : Fin 8 → β → sProp 𝕄) (f : β) : (all fun k => Φ k f) ⊢ all fun k => iprop(∃ f, Φ k f) :=
  bigSep_mono fun k _ => by
    show Φ k f ⊢ iprop(∃ f, Φ k f)
    iintro H
    iexists f
    iexact H

theorem c_split (c : Dev nD) : iprop(∃ f, cWhole (F := F) c f) ⊢ all fun k => iprop(∃ f, cPts (F := F) c k f) := by
  iintro ⟨%f, H⟩
  ihave H := (Entails.of_eq (c_chunks c f)) $$ H
  iapply (all_some (fun k f => cPts c k f) f)
  iexact H
theorem b_split (c : Dev nD) : iprop(∃ f, bWhole (F := F) c fullShare f) ⊢ all fun k => iprop(∃ f, bPts (F := F) c k fullShare f) := by
  iintro ⟨%f, H⟩
  ihave H := (Entails.of_eq (b_chunks c fullShare f)) $$ H
  iapply (all_some (fun k f => bPts c k fullShare f) f)
  iexact H

theorem b_join (c : Dev nD) (f : Vec F S8x32x512 .f32) :
    iprop((all fun k => bPts c k fullShare.left f) ∗ bWhole c fullShare.right f) ⊢ bWhole c fullShare f := by
  rw [← b_chunks]
  unfold bWhole
  exact (pointsTo_share (PosShare.mem_left_op_right fullShare)).2

/-! ## The result: the own half, and the eight chunks of the other half -/

/-- The whole result. -/
def oWhole (c : Dev nD) (f : Vec F S512x512 .f32) : sProp 𝕄 := oM.view.loc (c : Thread nD τ) ↦[Finset.univ]{fullShare} f

theorem oC_disjoint (d : Dev nD) (k k' : Fin 8) (h : k ≠ k') : Disjoint (oC d k).view.set (oC d k').view.set := by
  rw [set_oC, set_oC]; exact oR_disjoint d h
theorem some_chunk (d : Dev nD) (i : S512x512.Idx) : i ∈ (halfR d).set ↔ ∃ k : Fin 8, i ∈ (oC d k).view.set := by
  rw [← oR_cover, Finset.mem_biUnion]
  exact ⟨fun ⟨k, _, h⟩ => ⟨k, by rw [set_oC]; exact h⟩, fun ⟨k, h⟩ => ⟨k, Finset.mem_univ k, by rw [set_oC] at h; exact h⟩⟩
theorem mem_half (c : Dev nD) (i : S512x512.Idx) : i ∈ (halfR c).set ↔ i ∈ (Finset.univ : Finset S512x512.Idx) ∧ i ∉ (halfR (xNbr c)).set := by
  rw [← half_compl, Finset.mem_sdiff]

theorem o_chunks (c d : Dev nD) (f : Vec F S512x512 .f32) : oHalf c d f = all fun k => oPts c d k f :=
  in_parts (ℓ := oM.view.loc (c : Thread nD τ)) fullShare f (halfR d).set (fun k => (oC d k).view.set) (oC_disjoint d) (some_chunk d)

theorem o_halves (c : Dev nD) (f : Vec F S512x512 .f32) : oWhole c f ⊣⊢ iprop(oHalf c (xNbr c) f ∗ oHalf c c f) :=
  in_two (ℓ := oM.view.loc (c : Thread nD τ)) fullShare f Finset.univ (halfR (xNbr c)).set (halfR c).set (Finset.subset_univ _) (mem_half c)

theorem o_split (c : Dev nD) : iprop(∃ f, oWhole (F := F) c f)
    ⊢ iprop((∃ f, oHalf (F := F) c c f) ∗ all fun k => iprop(∃ f, oPts (F := F) c (xNbr c) k f)) := by
  iintro ⟨%f, H⟩
  ihave H := (o_halves c f).1 $$ H
  icases H with ⟨H', H⟩
  isplitl [H]; · iexists f; iexact H
  iapply (all_some (fun k f => oPts c (xNbr c) k f) f)
  iapply (Entails.of_eq (o_chunks c (xNbr c) f))
  iexact H'

theorem o_join (c : Dev nD) (f : Vec F S512x512 .f32) : iprop(oHalf c c f ∗ all fun k => oPts c (xNbr c) k f) ⊢ oWhole c f := by
  rw [← o_chunks]
  iintro ⟨H, H'⟩
  iapply (o_halves c f).2
  isplitl [H']; · iexact H'
  iexact H

end Cert.Norm

end
-- ==== Proof.Body.lean ====
/- The run of one device's body: the handshake, then the steps in their order. -/
module

public import proofs.«01_k».proof.Proof.Buffers

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (p : Dev nD → Vec F S1x512x512 .f32) (r : Dev nD → Vec F S512x512 .f32) (g : Dev nD → Vec F S512 .f32)
variable (K : Dev nD × Option (Fin 4 × Fin 8) → ℕ)

theorem runs_bind (c : Dev nD) (x y : P (F := F) PUnit) (Q : PUnit → sProp 𝕄) :
    runs c x (fun _ => runs c y Q) ⊢ runs c (x >>= fun _ => y) Q := by
  show _ ⊢ wp _ _ _ (x >>= fun _ => y) _
  rw [wp_bind]

/-! ## The handshake -/

theorem bar_y (c : Dev nD) : (all fun k => iprop(∃ f, cPts (F := F) c k f)) = (sched p r g).payload (barCell (yNbr c)) 0 false := by
  rw [payload_bar]; unfold barPay; rw [yNbr_yNbr]; rfl
theorem bar_x (c : Dev nD) : (all fun k => iprop(∃ f, oPts (F := F) c (xNbr c) k f)) = (sched p r g).payload (barCell (xNbr c)) 0 true := by
  rw [payload_bar]; unfold barPay; rw [xNbr_xNbr]; rfl

/-- The handshake hands out the device's landing slots and the other half of its result, and brings the neighbours'. -/
theorem runs_hand (c : Dev nD) (rest : P (F := F) PUnit) (Q : PUnit → sProp 𝕄) :
    iprop(records p r g K ∗ levAts L lv ∗ atPos ER (barCell c) 0 ∅ 0 ∗ dutyTok ER (barCell (yNbr c)) 0 false ∗ dutyTok ER (barCell (xNbr c)) 0 true
        ∗ cred (tallyAt (barCell c) () 2) ∗ (all fun k => iprop(∃ f, cPts (F := F) c k f)) ∗ (all fun k => iprop(∃ f, oPts (F := F) c (xNbr c) k f))
        ∗ (∃ W, owes (c : Thread nD τ) (oweAll c) W)
        ∗ (((all fun k => iprop(∃ f, cPts (F := F) (yNbr c) k f)) ∗ (all fun k => iprop(∃ f, oPts (F := F) (xNbr c) c k f))
            ∗ semVal (barCell c) 0 ∗ ∃ W, owes (c : Thread nD τ) (oweLegs c) W) -∗ runs c rest Q))
      ⊢ runs c (semSignalWord (yNbr c) barS 1#32 >>= fun _ => semSignalWord (xNbr c) barS 1#32 >>= fun _ => semWaitWord barS 2#32 >>= fun _ => rest) Q := by
  simp only [semSignalWord, semWaitWord, bind, Prog.bind_op, Prog.bind_ret]
  unfold oweAll
  iintro ⟨#HR, #Hlev, Hat, Hty, Htx, Hcr, Hc, Ho, ⟨%W, HO⟩, Hk⟩
  ihave #HI := (inv_bar p r g K c) $$ HR
  ihave #HIy := (inv_bar p r g K (yNbr c)) $$ HR
  ihave #HIx := (inv_bar p r g K (xNbr c)) $$ HR
  ihave #Hry := (at_bar p r g K (yNbr c)) $$ HR
  ihave #Hrx := (at_bar p r g K (xNbr c)) $$ HR
  ihave Hc := (Entails.of_eq (bar_y p r g c)) $$ Hc
  ihave Ho := (Entails.of_eq (bar_x p r g c)) $$ Ho
  iapply (Rounds.wp_signal 𝒱₀ ER (sched p r g) (c : Thread nD τ) none (dst := (yNbr c : Thread nD τ)) (κ := K (yNbr c, none))
      (d := false) (by rw [duties_bar]; exact Finset.mem_univ _) ((amount_bar p r g (yNbr c) false).trans (by decide)) ()
      (oweLegs c + tallyAt (barCell (xNbr c)) () 1) rfl) $$ [HO Hty Hc]
  · isplitr; · iexact HIy
    isplitl [HO]; · iexact HO
    isplitl [Hty]; · iexact Hty
    isplitl [Hc]; · iexact Hc
    iexact Hry
  iintro HO
  iapply (Rounds.wp_signal 𝒱₀ ER (sched p r g) (c : Thread nD τ) none (dst := (xNbr c : Thread nD τ)) (κ := K (xNbr c, none))
      (d := true) (by rw [duties_bar]; exact Finset.mem_univ _) ((amount_bar p r g (xNbr c) true).trans (by decide)) ()
      (oweLegs c) rfl) $$ [HO Htx Ho]
  · isplitr; · iexact HIx
    isplitl [HO]; · iexact HO
    isplitl [Htx]; · iexact Htx
    isplitl [Ho]; · iexact Ho
    iexact Hrx
  iintro HO
  iapply (Rounds.wp_wait_rest_token 𝒱₀ ER (sched p r g) (c : Thread nD τ) none (κ := K (c, none))
      (wpE_semWait_eq 𝒱₀ (c : Thread nD τ) none Set.univ) (Set.mem_univ _) () (O := oweLegs c) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait c (.reg barS) (oweLegs c) (above_legs c)); iexact Hlev
    iexact Hat
  iintro ⟨HO, Hat, -, Hpay⟩
  ihave Hp := (Entails.of_eq (rest_bar p r g c)) $$ Hpay
  icases Hp with ⟨Hc, Ho⟩
  imod (Rounds.cell_close ER (sched p r g) (Set.mem_univ (K (c, none))) (fun h => h) (R := 0 + 1) (duties_later p r g (barCell c))) $$ [Hat] with Hz
  · isplitr; · iexact HI
    iexact Hat
  iapply Hk
  isplitl [Hc]; · iexact Hc
  isplitl [Ho]; · iexact Ho
  isplitl [Hz]; · iexact Hz
  iexists _; iexact HO

/-! ## What the body takes and leaves -/

/-- The device's place at each of its cells. -/
def places (c : Dev nD) : sProp 𝕄 :=
  iprop(atPos ER (barCell c) 0 ∅ 0 ∗ (all fun k => atPos ER (legCell 0 c k) 0 ∅ 0) ∗ (all fun k => atPos ER (legCell 1 c k) 0 ∅ 0)
    ∗ (all fun k => atPos ER (legCell 2 c k) 0 ∅ 0) ∗ all fun k => atPos ER (legCell 3 c k) 0 ∅ 0)
/-- The duties it pays: a unit to either neighbour, and for each chunk the sent and the received credit of either leg. -/
def payToks (c : Dev nD) : sProp 𝕄 :=
  iprop(dutyTok ER (barCell (yNbr c)) 0 false ∗ dutyTok ER (barCell (xNbr c)) 0 true
    ∗ (all fun k => dutyTok ER (legCell 0 c k) 0 false) ∗ (all fun k => dutyTok ER (legCell 1 (yNbr c) k) 0 false)
    ∗ (all fun k => dutyTok ER (legCell 2 c k) 0 false) ∗ all fun k => dutyTok ER (legCell 3 (xNbr c) k) 0 false)
/-- The credits it waits for and others pay. -/
def credits (c : Dev nD) : sProp 𝕄 :=
  iprop(cred (tallyAt (barCell c) () 2) ∗ (all fun k => cred (tallyAt (legCell 1 c k) () N)) ∗ all fun k => cred (tallyAt (legCell 3 c k) () N))
/-- Its buffers before, -/
def bufsIn (c : Dev nD) : sProp 𝕄 :=
  iprop(pWhole c fullShare (p c) ∗ rWhole c (r c) ∗ gWhole c (g c) ∗ (∃ f, oWhole (F := F) c f)
    ∗ (∃ f, cWhole (F := F) c f) ∗ (∃ f, tWhole (F := F) c f) ∗ ∃ f, bWhole (F := F) c fullShare f)
/-- and after. -/
def bufsOut (c : Dev nD) : sProp 𝕄 :=
  iprop(pWhole c fullShare (p c) ∗ rWhole c (r c) ∗ gWhole c (g c) ∗ oWhole c (result p r g c)
    ∗ cWhole c (landed p c) ∗ tWhole c (sumOf p r c) ∗ bWhole c fullShare (normed p r g c))
/-- Its cells' counters, at zero. -/
def zeros (c : Dev nD) : sProp 𝕄 :=
  iprop(semVal (barCell c) 0 ∗ (all fun k => semVal (legCell 0 c k) 0) ∗ (all fun k => semVal (legCell 1 c k) 0)
    ∗ (all fun k => semVal (legCell 2 c k) 0) ∗ all fun k => semVal (legCell 3 c k) 0)

/-! ## A step for every chunk -/

theorem runs_all (c : Dev nD) (n : ℕ) (R : sProp 𝕄) (A B : Fin 8 → sProp 𝕄) (O : CellTallies nD τ sig Unit)
    (f : Fin 8 → CellTallies nD τ sig Unit) (x : Fin 8 → P (F := F) PUnit) (hO : Above n O) (hf : ∀ k, Above n (f k))
    (hstep : ∀ k O' Q, Above n (O' + f k) →
      iprop(R ∗ A k ∗ (∃ W, owes (c : Thread nD τ) (O' + f k) W) ∗ ((R ∗ B k ∗ ∃ W, owes (c : Thread nD τ) O' W) -∗ Q ⟨⟩)) ⊢ runs c (x k) Q)
    (Q : PUnit → sProp 𝕄) :
    iprop(R ∗ all A ∗ (∃ W, owes (c : Thread nD τ) (O + total f chunks) W) ∗ ((R ∗ all B ∗ ∃ W, owes (c : Thread nD τ) O W) -∗ Q ⟨⟩))
      ⊢ runs c (each chunks x) Q := by
  rw [all_eq, all_eq]
  exact runs_each c n R A B O f x hO hf hstep chunks Q

theorem total_zero : ∀ l, total (fun _ => (0 : CellTallies nD τ sig Unit)) l = 0
  | [] => rfl
  | _ :: ks => by
    show total (fun _ => (0 : CellTallies nD τ sig Unit)) ks + 0 = 0
    rw [total_zero ks, add_zero]

/-- The same for a step that pays nothing, when nothing is owed. -/
theorem runs_all_free (c : Dev nD) (R : sProp 𝕄) (A B : Fin 8 → sProp 𝕄) (x : Fin 8 → P (F := F) PUnit)
    (hstep : ∀ k O Q, Above 4 O →
      iprop(R ∗ A k ∗ (∃ W, owes (c : Thread nD τ) O W) ∗ ((R ∗ B k ∗ ∃ W, owes (c : Thread nD τ) O W) -∗ Q ⟨⟩)) ⊢ runs c (x k) Q)
    (Q : PUnit → sProp 𝕄) :
    iprop(R ∗ all A ∗ (∃ W, owes (c : Thread nD τ) 0 W) ∗ ((R ∗ all B ∗ ∃ W, owes (c : Thread nD τ) 0 W) -∗ Q ⟨⟩))
      ⊢ runs c (each chunks x) Q := by
  have h := runs_all c 4 R A B 0 (fun _ => 0) x (above_zero 4) (fun _ => above_zero 4)
    (fun k O' Q h => by rw [add_zero] at h ⊢; exact hstep k O' Q h) Q
  rwa [total_zero, add_zero] at h

/-! ## What the steps take, for all chunks at once -/

theorem sendPre_all (c : Dev nD) : (all fun k => sendPre p c k)
    = iprop((all fun k => pPts p c k fullShare.left) ∗ (all fun k => iprop(∃ f, cPts (F := F) (yNbr c) k f))
        ∗ (all fun k => dutyTok ER (legCell 0 c k) 0 false) ∗ all fun k => dutyTok ER (legCell 1 (yNbr c) k) 0 false) := by
  unfold all sendPre; rw [bigSep_sep', bigSep_sep', bigSep_sep']

theorem chunkPre_all (c : Dev nD) : (all fun k => chunkPre (F := F) c k)
    = iprop((all fun k => cred (tallyAt (legCell 1 c k) () N)) ∗ (all fun k => atPos ER (legCell 1 c k) 0 ∅ 0)
        ∗ (all fun k => iprop(∃ f, bPts (F := F) c k fullShare f)) ∗ (all fun k => iprop(∃ f, oPts (F := F) (xNbr c) c k f))
        ∗ (all fun k => dutyTok ER (legCell 2 c k) 0 false) ∗ all fun k => dutyTok ER (legCell 3 (xNbr c) k) 0 false) := by
  unfold all chunkPre; rw [bigSep_sep', bigSep_sep', bigSep_sep', bigSep_sep', bigSep_sep']

theorem chunkPost_all (c : Dev nD) : (all fun k => chunkPost p r g c k)
    = iprop((all fun k => cPts c k (landed p c)) ∗ (all fun k => semVal (legCell 1 c k) 0)
        ∗ (all fun k => bPts c k fullShare.right (normed p r g c)) ∗ all fun k => cred (tallyAt (legCell 2 c k) () N)) := by
  unfold all chunkPost; rw [bigSep_sep', bigSep_sep', bigSep_sep']

theorem due_all (a : Fin 4) (c : Dev nD) : (all fun k => due (F := F) a c k)
    = iprop((all fun k => cred (tallyAt (legCell a c k) () N)) ∗ all fun k => atPos ER (legCell a c k) 0 ∅ 0) := by
  unfold all due; rw [bigSep_sep']

theorem got_all (a : Fin 4) (c : Dev nD) : (all fun k => got p r g a c k)
    = iprop((all fun k => legPay p r g c a.val k) ∗ all fun k => semVal (legCell a c k) 0) := by
  unfold all got; rw [bigSep_sep']

theorem got_sA (c : Dev nD) : (all fun k => legPay p r g c (0 : Fin 4).val k) = all fun k => pPts p c k fullShare.left :=
  bigSep_congr fun k _ => (payload_leg p r g c 0 k false).symm.trans (pay_sA p r g c k false)
theorem got_sB (c : Dev nD) : (all fun k => legPay p r g c (2 : Fin 4).val k) = all fun k => bPts c k fullShare.left (normed p r g c) :=
  bigSep_congr fun k _ => (payload_leg p r g c 2 k false).symm.trans (pay_sB p r g c k false)
theorem got_rB (c : Dev nD) : (all fun k => legPay p r g c (3 : Fin 4).val k) = all fun k => oPts c (xNbr c) k (result p r g c) :=
  bigSep_congr fun k _ => (payload_leg p r g c 3 k false).symm.trans (pay_rB p r g c k false)

/-! ## The run -/

/-- The body of a device that knows which it is. -/
def bodyAt (d : Dev nD) : P (F := F) PUnit :=
  semSignalWord (yNbr d) barS 1#32 >>= fun _ => semSignalWord (xNbr d) barS 1#32 >>= fun _ => semWaitWord barS 2#32 >>= fun _ =>
  each chunks (sendA d) >>= fun _ => addOwn d >>= fun _ => each chunks (chunk d) >>= fun _ => storeOwn d >>= fun _ =>
  each chunks (waitA d) >>= fun _ => each chunks (waitB d)

theorem body_at : body (F := F) = Prog.op TpuEff.deviceId bodyAt := rfl

theorem runs_body (c : Dev nD) (Q : PUnit → sProp 𝕄) :
    iprop(records p r g K ∗ levAts L lv ∗ places (F := F) c ∗ payToks (F := F) c ∗ credits (F := F) c ∗ bufsIn p r g c
        ∗ (∃ W, owes (c : Thread nD τ) (oweAll c) W)
        ∗ ((bufsOut p r g c ∗ zeros (F := F) c ∗ ∃ W, owes (c : Thread nD τ) 0 W) -∗ Q ⟨⟩))
      ⊢ runs c body Q := by
  rw [body_at]
  unfold runs
  rw [wp_deviceId]
  unfold bodyAt places payToks credits bufsIn bufsOut zeros
  iintro ⟨#HR, #Hlev, ⟨HaB, Ha0, Ha1, Ha2, Ha3⟩, ⟨HtY, HtX, Ht0, Ht1, Ht2, Ht3⟩, ⟨HcB, Hc1, Hc3⟩, ⟨HP, HRes, HG, HO, HC, HT, HB⟩, Hown, Hk⟩
  ihave HC := (c_split c) $$ HC
  ihave HB := (b_split c) $$ HB
  ihave HO := (o_split c) $$ HO
  icases HO with ⟨HOh, HO⟩
  ihave HP := (p_split p c) $$ HP
  icases HP with ⟨HPs, HPr, HP⟩
  iapply (runs_hand p r g K c _ Q)
  isplitr; · iexact HR
  isplitr; · iexact Hlev
  isplitl [HaB]; · iexact HaB
  isplitl [HtY]; · iexact HtY
  isplitl [HtX]; · iexact HtX
  isplitl [HcB]; · iexact HcB
  isplitl [HC]; · iexact HC
  isplitl [HO]; · iexact HO
  isplitl [Hown]; · iexact Hown
  iintro ⟨HC, HO, HzB, Hown⟩
  -- the first leg's copies
  iapply (runs_bind c (each chunks (sendA c)) _ Q)
  iapply (runs_all c 2 (records p r g K) (sendPre p c) (fun k => cred (tallyAt (legCell 0 c k) () N)) (total (oweB c) chunks) (oweA c) (sendA c)
    (above_total (fun k => above_mono (by decide) (above_oweB c k)) _) (above_oweA c) (fun k O' Q _ => runs_sendA p r g K c k O' Q) _)
  isplitr; · iexact HR
  isplitl [HPs HC Ht0 Ht1]
  · iapply (Entails.of_eq (sendPre_all p c).symm)
    isplitl [HPs]; · iexact HPs
    isplitl [HC]; · iexact HC
    isplitl [Ht0]; · iexact Ht0
    iexact Ht1
  isplitl [Hown]; · iexact Hown
  iintro ⟨-, Hc0, Hown⟩
  -- the partial sum
  iapply (runs_bind c (addOwn c) _ Q)
  iapply (runs_addOwn p r c _)
  isplitl [HP]; · iexact HP
  isplitl [HRes]; · iexact HRes
  isplitl [HT]; · iexact HT
  iintro ⟨HP, HRes, HT⟩
  -- the chunks
  iapply (runs_bind c (each chunks (chunk c)) _ Q)
  iapply (runs_all c 3 (chunkR p r g K c) (chunkPre c) (chunkPost p r g c) 0 (oweB c) (chunk c)
    (above_zero 3) (above_oweB c) (fun k O' Q h => runs_chunk p r g K c k O' h Q) _)
  isplitl [HT HG]
  · unfold chunkR
    isplitr; · iexact HR
    isplitr; · iexact Hlev
    isplitl [HT] <;> iassumption
  isplitl [Hc1 Ha1 HB HO Ht2 Ht3]
  · iapply (Entails.of_eq (chunkPre_all (F := F) c).symm)
    isplitl [Hc1]; · iexact Hc1
    isplitl [Ha1]; · iexact Ha1
    isplitl [HB]; · iexact HB
    isplitl [HO]; · iexact HO
    isplitl [Ht2]; · iexact Ht2
    iexact Ht3
  isplitl [Hown]; · rw [zero_add]; iexact Hown
  iintro ⟨HF, Hpost, Hown⟩
  unfold chunkR
  icases HF with ⟨-, -, HT, HG⟩
  ihave Hpost := (Entails.of_eq (chunkPost_all p r g c)) $$ Hpost
  icases Hpost with ⟨HC, Hz1, HB, Hc2⟩
  -- the own half
  iapply (runs_bind c (storeOwn c) _ Q)
  iapply (runs_storeOwn p r g c _)
  isplitl [HB]; · iapply (Entails.of_eq (b_chunks c fullShare.right (normed p r g c)).symm); iexact HB
  isplitl [HOh]; · iexact HOh
  iintro ⟨HB, HOh⟩
  -- the waits
  iapply (runs_bind c (each chunks (waitA c)) _ Q)
  iapply (runs_all_free c (waitR p r g K) (due 0 c) (got p r g 0 c) (waitA c) (fun k O Q h => runs_waitA p r g K c k O h Q) _)
  isplitr
  · unfold waitR; isplitr; · iexact HR
    iexact Hlev
  isplitl [Hc0 Ha0]
  · iapply (Entails.of_eq (due_all (F := F) 0 c).symm)
    isplitl [Hc0]; · iexact Hc0
    iexact Ha0
  isplitl [Hown]; · iexact Hown
  iintro ⟨-, HA, Hown⟩
  ihave HA := (Entails.of_eq (got_all p r g 0 c)) $$ HA
  icases HA with ⟨HPs, Hz0⟩
  ihave HPs := (Entails.of_eq (got_sA p r g c)) $$ HPs
  iapply (runs_all_free c (waitR p r g K) (fun k => iprop(due 2 c k ∗ due 3 c k)) (fun k => iprop(got p r g 2 c k ∗ got p r g 3 c k)) (waitB c)
    (fun k O Q h => runs_waitB p r g K c k O h Q) Q)
  isplitr
  · unfold waitR; isplitr; · iexact HR
    iexact Hlev
  isplitl [Hc2 Ha2 Hc3 Ha3]
  · iapply (Entails.of_eq (bigSep_sep' Finset.univ (fun k => due (F := F) 2 c k) (fun k => due 3 c k)).symm)
    isplitl [Hc2 Ha2]
    · iapply (Entails.of_eq (due_all (F := F) 2 c).symm)
      isplitl [Hc2]; · iexact Hc2
      iexact Ha2
    · iapply (Entails.of_eq (due_all (F := F) 3 c).symm)
      isplitl [Hc3]; · iexact Hc3
      iexact Ha3
  isplitl [Hown]; · iexact Hown
  iintro ⟨-, HA, Hown⟩
  ihave HA := (Entails.of_eq (bigSep_sep' Finset.univ (fun k => got p r g 2 c k) (fun k => got p r g 3 c k))) $$ HA
  icases HA with ⟨H2, H3⟩
  ihave H2 := (Entails.of_eq (got_all p r g 2 c)) $$ H2
  icases H2 with ⟨HBs, Hz2⟩
  ihave HBs := (Entails.of_eq (got_sB p r g c)) $$ HBs
  ihave H3 := (Entails.of_eq (got_all p r g 3 c)) $$ H3
  icases H3 with ⟨HO, Hz3⟩
  ihave HO := (Entails.of_eq (got_rB p r g c)) $$ HO
  iapply Hk
  isplitl [HPs HPr HP HRes HG HO HOh HC HT HB HBs]
  · isplitl [HPs HPr HP]
    · iapply (p_join p c)
      isplitl [HPs]; · iexact HPs
      isplitl [HPr] <;> iassumption
    isplitl [HRes]; · iexact HRes
    isplitl [HG]; · iexact HG
    isplitl [HO HOh]
    · iapply (o_join c (result p r g c))
      isplitl [HOh]; · iexact HOh
      iexact HO
    isplitl [HC]; · iapply (Entails.of_eq (c_chunks c (landed p c)).symm); iexact HC
    isplitl [HT]; · iexact HT
    iapply (b_join c (normed p r g c))
    isplitl [HBs]; · iexact HBs
    iexact HB
  isplitr [Hown]
  · isplitl [HzB]; · iexact HzB
    isplitl [Hz0]; · iexact Hz0
    isplitl [Hz1]; · iexact Hz1
    isplitl [Hz2]; · iexact Hz2
    iexact Hz3
  iexact Hown

end Cert.Norm

end
-- ==== Proof.Owed.lean ====
/- The launch's bookkeeping of the cells: that they are distinct, and that the credits a device waits for are what the
   other devices owe it. -/
module

public import proofs.«01_k».proof.Proof.Body

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells are distinct -/

theorem legS_inj {a a' : Fin 4} {k k' : Fin 8} (h : legS a k = legS a' k') : a = a' ∧ k = k' := by
  have h' := congrArg Fin.val h
  rw [legS_val, legS_val] at h'
  have := k.isLt
  have := k'.isLt
  exact ⟨Fin.ext (by omega), Fin.ext (by omega)⟩

theorem semOf_injective : Function.Injective semOf := by
  rintro (_ | ⟨a, k⟩) (_ | ⟨a', k'⟩) h
  · rfl
  · cases h
  · cases h
  · have h' : legS a k = legS a' k' := SemLoc.dma.inj h
    obtain ⟨rfl, rfl⟩ := legS_inj h'
    rfl

theorem cellAt_injective : Function.Injective (cellAt : Dev nD × Option (Fin 4 × Fin 8) → GSem nD τ sig) := by
  rintro ⟨c, o⟩ ⟨c', o'⟩ h
  have h1 : c = c' := congrArg (fun s : GSem nD τ sig => s.1.1) h
  have h2 : o = o' := semOf_injective (congrArg Prod.snd h)
  rw [h1, h2]

theorem leg_eq_iff {a a' : Fin 4} {c c' : Dev nD} {k k' : Fin 8} : legCell a c k = legCell a' c' k' ↔ a = a' ∧ c = c' ∧ k = k' := by
  constructor
  · intro h
    have h' : ((c, some (a, k)) : Dev nD × Option (Fin 4 × Fin 8)) = (c', some (a', k')) := cellAt_injective h
    injection h' with h1 h2
    injection h2 with h2
    injection h2 with h2 h3
    exact ⟨h2, h1, h3⟩
  · rintro ⟨rfl, rfl, rfl⟩; rfl
theorem bar_eq_iff {c c' : Dev nD} : barCell c = barCell c' ↔ c = c' :=
  ⟨fun h => congrArg (fun s : GSem nD τ sig => s.1.1) h, fun h => by rw [h]⟩
theorem bar_ne_leg (a : Fin 4) (c c' : Dev nD) (k : Fin 8) : barCell c ≠ legCell a c' k := fun h => by
  have h' := congrArg Prod.snd h
  cases h'

/-! ## What device `d` owes a cell of device `c` -/

theorem at_bar_of_leg (a : Fin 4) (c c' : Dev nD) (k : Fin 8) (v : ℕ) : tallyAt (legCell a c' k) () v (barCell c) () = 0 := by
  rw [tallyAt_apply, if_neg fun h => bar_ne_leg a c c' k h.1]
theorem at_leg_of_bar (a : Fin 4) (c c' : Dev nD) (k : Fin 8) (v : ℕ) : tallyAt (barCell c') () v (legCell a c k) () = 0 := by
  rw [tallyAt_apply, if_neg fun h => bar_ne_leg a c' c k h.1.symm]
theorem at_leg_of_leg (a a' : Fin 4) (c c' : Dev nD) (k k' : Fin 8) (v : ℕ) :
    tallyAt (legCell a' c' k') () v (legCell a c k) () = if a = a' ∧ c = c' ∧ k = k' then v else 0 := by
  rw [tallyAt_apply]
  exact if_congr (by rw [leg_eq_iff]; exact and_iff_left rfl) rfl rfl
theorem at_bar_of_bar (c c' : Dev nD) (v : ℕ) : tallyAt (barCell c') () v (barCell c) () = if c = c' then v else 0 := by
  rw [tallyAt_apply]
  exact if_congr (by rw [bar_eq_iff]; exact and_iff_left rfl) rfl rfl

theorem sum_one (v : ℕ) (P : Prop) [Decidable P] (k : Fin 8) : (chunks.map fun k' => if P ∧ k = k' then v else 0).sum = if P then v else 0 := by
  by_cases h : P
  · rw [if_pos h, List.map_congr_left (g := fun k' => if k = k' then v else 0) fun k' _ => if_congr (and_iff_right h) rfl rfl]
    fin_cases k <;> simp [chunks]
  · rw [if_neg h, List.map_congr_left (g := fun _ => 0) fun k' _ => if_neg fun h' => h h'.1]
    rfl

theorem total_none (f : Fin 8 → CellTallies nD τ sig Unit) (s : GSem nD τ sig) (h : ∀ k, f k s () = 0) : total f chunks s () = 0 := by
  rw [total_apply, List.map_congr_left (g := fun _ => 0) fun k _ => h k]
  rfl

theorem eq_nbr_y (c d : Dev nD) : c = yNbr d ↔ d = yNbr c :=
  ⟨fun h => by rw [h, yNbr_yNbr], fun h => by rw [h, yNbr_yNbr]⟩
theorem eq_nbr_x (c d : Dev nD) : c = xNbr d ↔ d = xNbr c :=
  ⟨fun h => by rw [h, xNbr_xNbr], fun h => by rw [h, xNbr_xNbr]⟩

theorem owed_bar (d c : Dev nD) : oweAll d (barCell c) () = (if d = xNbr c then 1 else 0) + (if d = yNbr c then 1 else 0) := by
  unfold oweAll oweLegs
  rw [Pi.add_apply, Finsupp.add_apply, Pi.add_apply, Finsupp.add_apply, Pi.add_apply, Finsupp.add_apply, at_bar_of_bar, at_bar_of_bar,
    total_none _ _ fun k => at_bar_of_leg 3 c (xNbr d) k N, total_none _ _ fun k => at_bar_of_leg 1 c (yNbr d) k N, Nat.add_zero, Nat.zero_add,
    if_congr (eq_nbr_x c d) rfl rfl, if_congr (eq_nbr_y c d) rfl rfl]

theorem owed_A (d c : Dev nD) (k : Fin 8) : oweAll d (legCell 1 c k) () = if d = yNbr c then N else 0 := by
  unfold oweAll oweLegs
  rw [Pi.add_apply, Finsupp.add_apply, Pi.add_apply, Finsupp.add_apply, Pi.add_apply, Finsupp.add_apply, at_leg_of_bar, at_leg_of_bar,
    total_none (oweB d) _ fun k' => (at_leg_of_leg 1 3 c (xNbr d) k k' N).trans (if_neg fun h => absurd h.1 (by decide))]
  simp only [Nat.add_zero, Nat.zero_add]
  rw [total_apply, List.map_congr_left (g := fun k' => if d = yNbr c ∧ k = k' then N else 0) fun k' _ =>
      (at_leg_of_leg 1 1 c (yNbr d) k k' N).trans (if_congr (by rw [eq_nbr_y]; exact and_iff_right rfl) rfl rfl)]
  exact sum_one N _ k

theorem owed_B (d c : Dev nD) (k : Fin 8) : oweAll d (legCell 3 c k) () = if d = xNbr c then N else 0 := by
  unfold oweAll oweLegs
  rw [Pi.add_apply, Finsupp.add_apply, Pi.add_apply, Finsupp.add_apply, Pi.add_apply, Finsupp.add_apply, at_leg_of_bar, at_leg_of_bar,
    total_none (oweA d) _ fun k' => (at_leg_of_leg 3 1 c (yNbr d) k k' N).trans (if_neg fun h => absurd h.1 (by decide))]
  simp only [Nat.add_zero, Nat.zero_add]
  rw [total_apply, List.map_congr_left (g := fun k' => if d = xNbr c ∧ k = k' then N else 0) fun k' _ =>
      (at_leg_of_leg 3 3 c (xNbr d) k k' N).trans (if_congr (by rw [eq_nbr_x]; exact and_iff_right rfl) rfl rfl)]
  exact sum_one N _ k

/-! ## The launch credit of each cell -/

theorem launch_bar (c : Dev nD) :
    tallyOn (barCell c) (launchCredit (Pipeline.owing oweAll) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xNbr c) fun _ => 1, Finset.sum_ite_eq' Finset.univ (yNbr c) fun _ => 1, if_pos (Finset.mem_univ _), if_pos (Finset.mem_univ _)]

theorem launch_A (c : Dev nD) (k : Fin 8) :
    tallyOn (legCell 1 c k) (launchCredit (Pipeline.owing oweAll) 0 (legCell 1 c k)) = (tallyAt (legCell 1 c k) () N : CellTallies nD τ sig Unit) := by
  unfold tallyAt; refine congrArg _ (Finsupp.ext fun u => ?_); cases u
  rw [Pipeline.launchCredit_owing, Finsupp.single_eq_same, Finset.sum_congr rfl fun d _ => owed_A d c k,
    Finset.sum_ite_eq' Finset.univ (yNbr c) fun _ => N, if_pos (Finset.mem_univ _)]

theorem launch_B (c : Dev nD) (k : Fin 8) :
    tallyOn (legCell 3 c k) (launchCredit (Pipeline.owing oweAll) 0 (legCell 3 c k)) = (tallyAt (legCell 3 c k) () N : CellTallies nD τ sig Unit) := by
  unfold tallyAt; refine congrArg _ (Finsupp.ext fun u => ?_); cases u
  rw [Pipeline.launchCredit_owing, Finsupp.single_eq_same, Finset.sum_congr rfl fun d _ => owed_B d c k,
    Finset.sum_ite_eq' Finset.univ (xNbr c) fun _ => N, if_pos (Finset.mem_univ _)]

/-! ## A resource for every cell -/

/-- One for each of a device's cells: the handshake's, and the four of each chunk. -/
theorem cells_eq (Ψ : Option (Fin 4 × Fin 8) → sProp 𝕄) : bigSep Finset.univ Ψ
    = iprop(Ψ none ∗ bigSep Finset.univ fun x : Fin 4 × Fin 8 => Ψ (some x)) := by
  rw [BI.bigSep_univ_equiv (Equiv.optionEquivSumPUnit.{0, 0} (Fin 4 × Fin 8)).symm Ψ, BI.bigSep_univ_sum, BI.bigSep_univ_of_subsingleton (i := PUnit.unit)]
  exact BI.equiv_iff.mp ⟨BI.sep_comm, BI.sep_comm⟩
theorem legs_eq (Ψ : Fin 4 × Fin 8 → sProp 𝕄) : bigSep Finset.univ Ψ
    = iprop((all fun k => Ψ (0, k)) ∗ (all fun k => Ψ (1, k)) ∗ (all fun k => Ψ (2, k)) ∗ all fun k => Ψ (3, k)) := by
  rw [BI.bigSep_univ_prod]
  exact bigSep_univ_eq_bigSepL [0, 1, 2, 3] (by decide) (by decide) _

theorem creds (c : Dev nD) : (Pipeline.launchCred oweAll c : sProp 𝕄) ⊢ credits c := by
  have h : (Pipeline.launchCred oweAll c : sProp 𝕄)
      ⊢ bigSep Finset.univ fun o : Option (Fin 4 × Fin 8) => cred (tallyOn (cellAt (c, o)) (launchCredit (Pipeline.owing oweAll) 0 (cellAt (c, o)))) := by
    unfold Pipeline.launchCred
    refine (BI.bigSep_subset (Finset.subset_univ (Finset.univ.map ⟨semOf, semOf_injective⟩))).trans ?_
    rw [bigSep_map]
    exact BI.Entails.refl _
  refine h.trans ?_
  rw [cells_eq, legs_eq]
  unfold credits
  rw [show tallyOn (cellAt (c, none)) (launchCredit (Pipeline.owing oweAll) 0 (cellAt (c, none))) = _ from launch_bar c]
  rw [show (all fun k => (cred (tallyOn (cellAt (c, some (1, k))) (launchCredit (Pipeline.owing oweAll) 0 (cellAt (c, some (1, k))))) : sProp 𝕄))
      = all fun k => cred (tallyAt (legCell 1 c k) () N) from bigSep_congr fun k _ => by rw [← launch_A],
    show (all fun k => (cred (tallyOn (cellAt (c, some (3, k))) (launchCredit (Pipeline.owing oweAll) 0 (cellAt (c, some (3, k))))) : sProp 𝕄))
      = all fun k => cred (tallyAt (legCell 3 c k) () N) from bigSep_congr fun k _ => by rw [← launch_B]]
  iintro ⟨Hb, -, HA, -, HB⟩
  isplitl [Hb]; · iexact Hb
  isplitl [HA]; · iexact HA
  iexact HB

end Cert.Norm

end
-- ==== Proof.Ghost.lean ====
/- The cells set up before the kernel starts: every cell's invariant, each device's place at its cells, and the tokens
   dealt to the devices that pay with them. -/
module

public import proofs.«01_k».proof.Proof.Owed

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (p : Dev nD → Vec F S1x512x512 .f32) (r : Dev nD → Vec F S512x512 .f32) (g : Dev nD → Vec F S512 .f32)
variable (K : Dev nD × Option (Fin 4 × Fin 8) → ℕ)

/-- The kernel's own semaphores: the four of each chunk. -/
abbrev osem (x : Fin 4 × Fin 8) : SemLoc sig := .dma (legS x.1 x.2)

theorem ownSemFacts : Pipeline.OwnSemFacts cfg0.spec osem := by decide

/-- All cells of all devices. -/
def allCells : Finset (GSem nD τ sig) := Finset.univ.map ⟨cellAt, cellAt_injective⟩

/-- The duty tokens of one device's cells: the first duty of each cell, and the handshake's second. -/
abbrev tokOf (x : Dev nD × (Option (Fin 4 × Fin 8) ⊕ Unit)) : GSem nD τ sig × ℕ × Bool := match x.2 with
  | .inl o => (cellAt (x.1, o), 0, false)
  | .inr _ => (barCell x.1, 0, true)

theorem tokOf_injective : Function.Injective tokOf := by
  rintro ⟨c, o | u⟩ ⟨c', o' | u'⟩ h
  · have h' : (c, o) = (c', o') := cellAt_injective (congrArg Prod.fst h)
    injection h' with h1 h2
    rw [h1, h2]
  · exact absurd (congrArg (fun x : GSem nD τ sig × ℕ × Bool => x.2.2) h) (fun h' : _ = _ => by cases h')
  · exact absurd (congrArg (fun x : GSem nD τ sig × ℕ × Bool => x.2.2) h) (fun h' : _ = _ => by cases h')
  · have h' : c = c' := bar_eq_iff.mp (congrArg Prod.fst h)
    rw [h']
def allToks : Finset (GSem nD τ sig × ℕ × Bool) := Finset.univ.map ⟨tokOf, tokOf_injective⟩

/-- The ghost state at launch: the pipeline's, and the cells'. -/
def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun o : Option (Fin 4 × Fin 8) => dutyTok ER (cellAt (c, o)) 0 false) ∗ dutyTok ER (barCell c) 0 true)

/-- What the launch deals a device, -/
def G (c : Dev nD) : sProp 𝕄 :=
  iprop((bigSep Finset.univ fun o => roundState ER (sched p r g) (cellAt (c, o)) 0)
    ∗ (bigSep Finset.univ fun o => iprop(atPos ER (cellAt (c, o)) 0 ∅ 0 ∗ reached ER (cellAt (c, o)) 0)) ∗ toks c)
/-- and what it holds once the cells are set up. -/
def G' (c : Dev nD) : sProp 𝕄 := iprop(∃ K, records p r g K ∗ places (F := F) c ∗ payToks (F := F) c)

theorem fund_cells : BI.own (ER (initOf allCells allToks)) ⊢ (|==> bigSep Finset.univ (G p r g) : sProp 𝕄) := by
  have hX (Φ : GSem nD τ sig → sProp 𝕄) :
      bigSep allCells Φ = bigSep Finset.univ fun c : Dev nD => bigSep Finset.univ fun o : Option (Fin 4 × Fin 8) => Φ (cellAt (c, o)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_of_subsingleton (i := ())]; rfl
  iintro HX
  imod (Rounds.fund ER (sched p r g) allCells allToks) $$ HX with ⟨Hst, Hr, Hat, Htok⟩
  imodintro
  ihave Hst := (Entails.of_eq (hX fun s => roundState ER (sched p r g) s 0)) $$ Hst
  ihave Hat := (Entails.of_eq (hX fun s => atPos ER s 0 ∅ 0)) $$ Hat
  ihave Hr := (Entails.of_eq (hX fun s => reached ER s 0)) $$ Hr
  ihave Htok := (Entails.of_eq hT) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun x : Fin 4 × Fin 8 => semVal (cellAt (c, some x)) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o => semVal (cellAt (c, o)) 0 : sProp 𝕄) := by
  rw [ownSems0_eq, unscopedSems0_eq, cells_eq]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G p r g c)
      ⊢ |={Set.univ}=> iprop((bigSep Finset.univ fun o => iprop(∃ κ : ℕ, cellInv ER (sched p r g) κ (cellAt (c, o))))
          ∗ (bigSep Finset.univ fun o => iprop(atPos ER (cellAt (c, o)) 0 ∅ 0 ∗ reached ER (cellAt (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o => semVal (cellAt (c, o)) 0) ∗ bigSep Finset.univ fun o => roundState ER (sched p r g) (cellAt (c, o)) 0)
      ⊢ (|={Set.univ}=> bigSep Finset.univ fun o => iprop(∃ κ : ℕ, cellInv ER (sched p r g) κ (cellAt (c, o))) : sProp 𝕄) from by
        rw [← bigSep_sep']
        exact (bigSep_mono fun o _ => (Rounds.body_intro ER (sched p r g) (cellAt (c, o))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to the devices that pay: those of the handshake and of the received credits go to the neighbour. -/
theorem toks_around : (bigSep Finset.univ fun c : Dev nD => (toks c : sProp 𝕄)) ⊢ bigSep Finset.univ fun c : Dev nD => payToks c := by
  have h1 (c : Dev nD) : (toks c : sProp 𝕄) = iprop((dutyTok ER (barCell c) 0 false ∗ (all fun k => dutyTok ER (legCell 0 c k) 0 false) ∗ (all fun k => dutyTok ER (legCell 1 c k) 0 false)
      ∗ (all fun k => dutyTok ER (legCell 2 c k) 0 false) ∗ all fun k => dutyTok ER (legCell 3 c k) 0 false) ∗ dutyTok ER (barCell c) 0 true) := by
    unfold toks; rw [cells_eq, legs_eq]
  rw [bigSep_congr (s := Finset.univ) fun c _ => h1 c]
  unfold payToks
  simp only [bigSep_sep']
  rw [bigSep_univ_equiv ySwap (fun c : Dev nD => (dutyTok ER (barCell c) 0 false : sProp 𝕄)),
    bigSep_univ_equiv xSwap (fun c : Dev nD => (dutyTok ER (barCell c) 0 true : sProp 𝕄)),
    bigSep_univ_equiv ySwap (fun c : Dev nD => (all fun k => dutyTok ER (legCell 1 c k) 0 false : sProp 𝕄)),
    bigSep_univ_equiv xSwap (fun c : Dev nD => (all fun k => dutyTok ER (legCell 3 c k) 0 false : sProp 𝕄))]
  iintro ⟨⟨HB, H0, H1, H2, H3⟩, HB'⟩
  isplitl [HB]; · iexact HB
  isplitl [HB']; · iexact HB'
  isplitl [H0]; · iexact H0
  isplitl [H1]; · iexact H1
  isplitl [H2]; · iexact H2
  iexact H3

theorem places_eq (c : Dev nD) : (bigSep Finset.univ fun o : Option (Fin 4 × Fin 8) => (atPos ER (cellAt (c, o)) 0 ∅ 0 : sProp 𝕄)) = places c := by
  unfold places; rw [cells_eq, legs_eq]

/-- A shared fact beside one thing per device. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun o => iprop(∃ κ : ℕ, cellInv ER (sched p r g) κ (cellAt (c, o))))
          ∗ (bigSep Finset.univ fun o => iprop(atPos ER (cellAt (c, o)) 0 ∅ 0 ∗ reached ER (cellAt (c, o)) 0)) ∗ toks c) : sProp 𝕄)
      ⊢ bigSep Finset.univ (G' p r g) := by
  rw [bigSep_sep', bigSep_sep', ← bigSep_univ_prod (fun x : Dev nD × Option (Fin 4 × Fin 8) => iprop(∃ κ : ℕ, cellInv ER (sched p r g) κ (cellAt x))),
    bigSep_congr (s := Finset.univ) (fun (c : Dev nD) _ => bigSep_sep' Finset.univ
      (fun o : Option (Fin 4 × Fin 8) => (atPos ER (cellAt (c, o)) 0 ∅ 0 : sProp 𝕄)) (fun o => reached ER (cellAt (c, o)) 0)),
    bigSep_sep', ← bigSep_univ_prod (fun x : Dev nD × Option (Fin 4 × Fin 8) => (reached ER (cellAt x) 0 : sProp 𝕄)),
    bigSep_congr (s := Finset.univ) fun (c : Dev nD) _ => places_eq c]
  iintro ⟨HI, ⟨Hat, #HR⟩, Htok⟩
  ihave HK := (BI.bigSep_exists_pi Finset.univ (fun (x : Dev nD × Option (Fin 4 × Fin 8)) (κ : ℕ) => (cellInv ER (sched p r g) κ (cellAt x) : sProp 𝕄))) $$ HI
  icases HK with ⟨%K, #HI⟩
  ihave Htk := (toks_around (F := F)) $$ Htok
  iapply (share_out (R := records p r g K) (Φ := fun c => iprop(places c ∗ payToks c)) fun c => show iprop(records p r g K ∗ places c ∗ payToks c) ⊢ G' p r g c from by
    unfold G'
    iintro H
    iexists K
    iexact H)
  isplitr
  · unfold records; isplitl; · iexact HI
    iexact HR
  · iapply (Entails.of_eq (bigSep_sep' Finset.univ places payToks).symm)
    isplitl [Hat]; · iexact Hat
    iexact Htk

/-- All devices' cells set up at once. -/
theorem glob : (bigSep Finset.univ fun c => iprop(Pipeline.ownSems0 (Ix := Unit) (Name := ℕ) (U := UU) (Lvl := ℕ) (Val := Elt F) (τ := τ) osem c ∗ unscopedSems0 c ∗ G p r g c) : sProp 𝕄)
    ⊢ |={Set.univ}=> bigSep Finset.univ (G' p r g) :=
  ((bigSep_mono fun c _ => core_alloc p r g c).trans (bigSep_fupd _ _)).trans (BI.fupd_mono (regroup p r g))

/-- The counters at zero, as the launch takes them back. -/
theorem zeros_eq (c : Dev nD) : (zeros c : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq, legs_eq]
  exact BI.Entails.refl _

end Cert.Norm

end
-- ==== Proof.Launch.lean ====
/- The run of @main on all devices: the kernel's body between what the launch stages and what it takes back, and the
   contents every device's arrays end with. -/
module

public import proofs.«01_k».proof.Proof.Ghost
public import Idealize.ShloMosaic.Lib.Pipeline.CollectiveSegs

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged inputs -/

/-- Device `c`'s partial block, -/
def pIn (c : Dev nD) : Vec F S1x512x512 .f32 := iblk m c 0 t0_0
/-- its residual -/
def rIn (c : Dev nD) : Vec F S512x512 .f32 := iblk m c 1 t0_0
/-- and its scale. -/
def gIn (c : Dev nD) : Vec F S512 .f32 := iblk m c 2 t0_0

/-- The result on device `c`. -/
def out (c : Dev nD) : Vec F S512x512 .f32 := result (pIn m) (rIn m) (gIn m) c

/-! ## The region's proof data -/

/-- What device `c` starts the kernel with, besides its buffers. -/
def start (c : Dev nD) : sProp 𝕄 := iprop(G' (pIn m) (rIn m) (gIn m) c ∗ credits (F := F) c ∗ levAts L lv)

/-- The scratch buffers. -/
def scratch (c : Dev nD) : sProp 𝕄 := iprop((∃ f, cWhole (F := F) c f) ∗ (∃ f, tWhole (F := F) c f) ∗ ∃ f, bWhole (F := F) c fullShare f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pIn m c
    | ⟨1, _⟩ => rIn m c
    | ⟨2, _⟩ => gIn m c
    | ⟨3, _⟩ => out m c
  Φ t := match t with
    | ⟨0, _⟩ => iprop(start m c ∗ scratch c)
    | ⟨_ + 1, _⟩ => iprop(scratch c ∗ zeros c)
  q _ := fullShare
  owed t := match t with
    | ⟨0, _⟩ => oweAll c
    | ⟨_ + 1, _⟩ => 0

theorem share_eq (c : Dev nD) (w : Fin cfg0.W) : (dats m ρ 0 c).share w = fullShare := by unfold Dat.share; split <;> rfl

theorem before_p (c : Dev nD) (d) : (dats m ρ 0 c).before (0 : Fin 4) t0_0 d = pIn m c := by
  unfold Dat.before; rw [if_pos (fetch0_0 _)]; rfl
theorem before_r (c : Dev nD) (d) : (dats m ρ 0 c).before (1 : Fin 4) t0_0 d = rIn m c := by
  unfold Dat.before; rw [if_pos (fetch0_1 _)]; rfl
theorem before_g (c : Dev nD) (d) : (dats m ρ 0 c).before (2 : Fin 4) t0_0 d = gIn m c := by
  unfold Dat.before; rw [if_pos (fetch0_2 _)]; rfl

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_p (c : Dev nD) (f : Vec F S1x512x512 .f32) : stg c cc0_stg0_0 f ⊢ pWhole c fullShare f := by
  iintro ⟨%f', %h, H⟩; subst h; unfold pWhole; iexact H
theorem stg_r (c : Dev nD) (f : Vec F S512x512 .f32) : stg c cc0_stg1_0 f ⊢ rWhole c f := by
  iintro ⟨%f', %h, H⟩; subst h; unfold rWhole; iexact H
theorem stg_g (c : Dev nD) (f : Vec F S512 .f32) : stg c cc0_stg2_0 f ⊢ gWhole c f := by
  iintro ⟨%f', %h, H⟩; subst h; unfold gWhole; iexact H
theorem stg_o (c : Dev nD) (f : Vec F S512x512 .f32) : stg c cc0_stg3_0 f ⊢ oWhole c f := by
  iintro ⟨%f', %h, H⟩; subst h; unfold oWhole; iexact H

theorem p_stg (c : Dev nD) (f : Vec F S1x512x512 .f32) : pWhole c fullShare f ⊢ stg c cc0_stg0_0 f := by
  unfold pWhole; iintro H; iexists f; isplitr; · ipureintro; rfl
  iexact H
theorem r_stg (c : Dev nD) (f : Vec F S512x512 .f32) : rWhole c f ⊢ stg c cc0_stg1_0 f := by
  unfold rWhole; iintro H; iexists f; isplitr; · ipureintro; rfl
  iexact H
theorem g_stg (c : Dev nD) (f : Vec F S512 .f32) : gWhole c f ⊢ stg c cc0_stg2_0 f := by
  unfold gWhole; iintro H; iexists f; isplitr; · ipureintro; rfl
  iexact H
theorem o_stg (c : Dev nD) (f : Vec F S512x512 .f32) : oWhole c f ⊢ stg c cc0_stg3_0 f := by
  unfold oWhole; iintro H; iexists f; isplitr; · ipureintro; rfl
  iexact H

def bodyPre (c : Dev nD) : sProp 𝕄 :=
  iprop((start m c ∗ scratch c) ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ ∃ d, stg c cc0_stg3_0 ((dats m ρ 0 c).before (3 : Fin 4) t0_0 d))
def bodyPost (c : Dev nD) : sProp 𝕄 :=
  iprop((scratch c ∗ zeros c) ∗ (dats m ρ 0 c).owesAt () t0_0.succ
    ∗ stg c cc0_stg0_0 (pIn m c) ∗ stg c cc0_stg1_0 (rIn m c) ∗ stg c cc0_stg2_0 (gIn m c) ∗ stg c cc0_stg3_0 (out m c))

theorem sound_body (c : Dev nD) : bodyPre m ρ c ⊢ runs c body fun _ => bodyPost m ρ c := by
  unfold bodyPre start G' scratch
  iintro ⟨⟨⟨⟨%K, HR, Hpl, Htok⟩, Hcr, Hlev⟩, HC, HT, HB⟩, Ho, ⟨%d0, Hp⟩, ⟨%d1, Hr⟩, ⟨%d2, Hg⟩, ⟨%d3, Hout⟩⟩
  unfold Dat.owesAt Pipeline.owesWithin
  icases Ho with ⟨%W, -, Ho⟩
  ihave Hp := (Entails.of_eq (congrArg (stg c cc0_stg0_0) (before_p m ρ c d0))) $$ Hp
  ihave Hr := (Entails.of_eq (congrArg (stg c cc0_stg1_0) (before_r m ρ c d1))) $$ Hr
  ihave Hg := (Entails.of_eq (congrArg (stg c cc0_stg2_0) (before_g m ρ c d2))) $$ Hg
  ihave Hp := (stg_p c (pIn m c)) $$ Hp
  ihave Hr := (stg_r c (rIn m c)) $$ Hr
  ihave Hg := (stg_g c (gIn m c)) $$ Hg
  ihave Hout := (stg_o c ((dats m ρ 0 c).before (3 : Fin 4) t0_0 d3)) $$ Hout
  iapply (runs_body (pIn m) (rIn m) (gIn m) K c fun _ => bodyPost m ρ c)
  unfold bufsIn
  isplitl [HR]; · iexact HR
  isplitl [Hlev]; · iexact Hlev
  isplitl [Hpl]; · iexact Hpl
  isplitl [Htok]; · iexact Htok
  isplitl [Hcr]; · iexact Hcr
  isplitl [Hp Hr Hg Hout HC HT HB]
  · isplitl [Hp]; · iexact Hp
    isplitl [Hr]; · iexact Hr
    isplitl [Hg]; · iexact Hg
    isplitl [Hout]; · iexists _; iexact Hout
    isplitl [HC]; · iexact HC
    isplitl [HT]; · iexact HT
    iexact HB
  isplitl [Ho]; · iexists W; iexact Ho
  unfold bufsOut
  iintro ⟨⟨Hp, Hr, Hg, Hout, HC, HT, HB⟩, Hz, ⟨%W', Ho⟩⟩
  unfold bodyPost scratch Dat.owesAt Pipeline.owesWithin
  isplitl [HC HT HB Hz]
  · isplitl [HC HT HB]
    · isplitl [HC]; · iexists _; iexact HC
      isplitl [HT]; · iexists _; iexact HT
      iexists _; iexact HB
    iexact Hz
  isplitl [Ho]
  · iexists W'
    isplitr; · ipureintro; exact fun _ _ => Or.inl trivial
    iexact Ho
  isplitl [Hp]; · iapply (p_stg c (pIn m c)); iexact Hp
  isplitl [Hr]; · iapply (r_stg c (rIn m c)); iexact Hr
  isplitl [Hg]; · iapply (g_stg c (gIn m c)); iexact Hg
  iapply (o_stg c (out m c)); iexact Hout

set_option maxRecDepth 65536 in
theorem body_obligation (c : Dev nD) : BodyObligation (dats (F := F) m ρ 0 c) (defs₀ (F := F)) 𝒱₀ () Set.univ := fun t => by
  rw [show t = t0_0 from fin_N0 t, show ∀ Φ : Fin cfg0.W → sProp 𝕄, bigSep Finset.univ Φ = _ from bigSep_W0,
    show ∀ Φ : Fin cfg0.W → sProp 𝕄, bigSep Finset.univ Φ = _ from bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m ρ c)
  rw [cc0_body_eq]
  exact sound_body m ρ c

/-! ## The launch's side conditions -/

theorem start_intro (c : Dev nD) :
    iprop(Pipeline.unscopedRestP Pipeline.Prefetch.none cfg0.spec c (fun b => m ((c : Thread nD τ).loc b)) ∗ levAts L lv
        ∗ Pipeline.launchCred oweAll c ∗ prngReg c (ρ c) ∗ G' (pIn m) (rIn m) (gIn m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scratch_eq (c : Dev nD) : (Pipeline.scopedRest cfg0.spec c : sProp 𝕄) = scratch c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ zeros c) from rfl, scratch_eq]
  iintro ⟨Hr, Hz⟩
  ihave Hz := (zeros_eq (F := F) c) $$ Hz
  icases Hz with ⟨Hu, Ho⟩
  isplitl [Hu]; · iexact Hu
  isplitl [Ho] <;> iassumption

theorem stage_level (c : Dev nD) (w : Fin cfg0.W) (s : Fin (cfg0.win w).nbuf) : lv ((c : Thread nD τ), .dma ((cfg0.win w).sem s)) () = 0 := by
  fin_cases w <;> fin_cases s <;> rfl

theorem waits (c : Dev nD) : (levAts L lv : sProp 𝕄) ⊢ Pipeline.cellsWaits cfgs (dats m ρ) () 0 c :=
  Pipeline.cellsWaits_intro cfgs (dats m ρ) () 0 c fun w s t => mayWait c _ _ (by
    rw [stage_level c w s]
    rcases t with ⟨_ | _, ht⟩
    · exact above_all c
    · exact above_zero _)

/-! ## The run -/

/-- Window `w`'s array on device `c` at the end. -/
def finalA (c : Dev nD) (w : Fin cfg0.W) : Buf (Elt F) ((cfg0.win w).arr.view.loc (c : Thread nD τ)) := (dats m ρ 0 c).arrAt w cfg0.N

def Ends (x : PUnit × MemSt nD τ sig (Elt F)) : Prop :=
  ∀ c : Dev nD, ∀ w : Fin cfg0.W, x.2.mem ((cfg0.win w).arr.view.loc (c : Thread nD τ)) = finalA m ρ c w

set_option maxRecDepth 8000 in
/-- From any memory with zero counters, on all sixteen devices, for any float values: every fair execution of @main ends,
    every array as computed and every counter at zero. -/
theorem run_main : θ_run defs (onTc (τ := τ) (main (F := F))) (s₀ m ρ) (fun x => Ends m ρ x ∧ x.2.sem = fun _ => 0) :=
  Pipeline.θ_run_region_owing_glob_pf (fun i => (cfgs i).toPCfg) (fun i => (cfgs i).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := oweAll) (howed₀ := fun _ => rfl) (howedN := fun _ => rfl)
    (L := L) (lv := lv) (hL := L_of_ne) (hwaits := waits m ρ)
    (G := G (pIn m) (rIn m) (gIn m)) (G' := G' (pIn m) (rIn m) (gIn m)) (u₀ := u₀)
    (hu₀ := by
      unfold u₀
      iintro Hu
      ihave H := (ownU_pair _ _) $$ Hu
      icases H with ⟨HP, HX⟩
      imod (fund_cells (pIn m) (rIn m) (gIn m)) $$ HX with HG
      imodintro
      isplitl [HP] <;> iassumption)
    (hglob := glob (pIn m) (rIn m) (gIn m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they were. -/
theorem final_p (c : Dev nD) : finalA m ρ c (0 : Fin 4) = m ((c.tc : Thread nD τ).loc main_arg0) := (dats (F := F) m ρ 0 c).arrAt_in (0 : Fin 4) rfl _
theorem final_r (c : Dev nD) : finalA m ρ c (1 : Fin 4) = m ((c.tc : Thread nD τ).loc main_arg1) := (dats (F := F) m ρ 0 c).arrAt_in (1 : Fin 4) rfl _
theorem final_g (c : Dev nD) : finalA m ρ c (2 : Fin 4) = m ((c.tc : Thread nD τ).loc main_arg2) := (dats (F := F) m ρ 0 c).arrAt_in (2 : Fin 4) rfl _

end Cert.Norm

end
-- ==== Proof.Root.lean ====
/- The arithmetic of one element: multiplying by the inverse square root is dividing by the square root, where what the
   root is taken of is a mean of squares plus a positive constant. Elements are extended reals. -/
module

public import Idealize.ShloMosaic.PureOps.Ideal

@[expose] public section

noncomputable section

namespace Cert.Norm

open Idealize.ShloMosaic

/-- The row's length. -/
theorem len_eq : Ideal.ofBits .f32 (0x44000000#32 : BitVec 32) = ((512 : ℝ) : EReal) := by
  simp [Ideal.ofBits, Ideal.ieee, -EReal.coe_mul]; norm_num

/-- The constant under the root, -/
theorem eps_eq : Ideal.ofBits .f32 (0x358637BD#32 : BitVec 32) = ((8796093 * (2 : ℝ) ^ (-43 : ℤ) : ℝ) : EReal) := by
  simp [Ideal.ofBits, Ideal.ieee, -EReal.coe_mul]
/-- is positive. -/
theorem eps_pos : ∃ e : ℝ, 0 < e ∧ Ideal.ofBits .f32 (0x358637BD#32 : BitVec 32) = (e : EReal) :=
  ⟨_, by positivity, eps_eq⟩

theorem square_nonneg (y : EReal) : 0 ≤ y * y := by
  induction y with
  | bot => simp
  | top => simp
  | coe y => exact_mod_cast mul_self_nonneg y

/-- Over a positive radicand, multiplying by the inverse root is dividing by the root. -/
theorem mul_rsqrt (y v : EReal) (h : 0 < v) : y * Ideal.rsqrt v = Ideal.div y (Ideal.sqrt v) := by
  induction v with
  | bot => exact absurd h (by simp)
  | top => rw [Ideal.rsqrt_top, Ideal.sqrt_top]; simp [Ideal.div]
  | coe v =>
    have hv : 0 < v := by exact_mod_cast h
    have hs : Real.sqrt v ≠ 0 := (Real.sqrt_pos.mpr hv).ne'
    rw [Ideal.rsqrt_coe, Ideal.sqrt_coe, if_neg hv.not_gt, if_neg hv.ne', if_neg hv.not_gt, Ideal.div_coe hs, one_div]

/-- The radicand: the mean of squares that add up to `s`, plus the constant. -/
def radicand (s : EReal) : EReal := Ideal.div s (Ideal.ofBits .f32 (0x44000000#32 : BitVec 32)) + Ideal.ofBits .f32 (0x358637BD#32 : BitVec 32)

theorem radicand_pos (s : EReal) (h : 0 ≤ s) : 0 < radicand s := by
  obtain ⟨e, he, hb⟩ := eps_pos
  unfold radicand
  rw [hb, len_eq, Ideal.div_coe (by norm_num)]
  have h1 : (0 : EReal) ≤ s * ((1 / 512 : ℝ) : EReal) := mul_nonneg h (by exact_mod_cast (by norm_num : (0 : ℝ) ≤ 1 / 512))
  have h2 : (0 : EReal) < (e : EReal) := by exact_mod_cast he
  calc (0 : EReal) < (e : EReal) := h2
    _ = 0 + (e : EReal) := (zero_add _).symm
    _ ≤ _ := add_le_add_left h1 _

/-- One row normalised, as the kernel writes it: element `j` of row `y` under scale `g`. -/
def rowNorm (y g : Fin 512 → EReal) (j : Fin 512) : EReal := y j * Ideal.rsqrt (radicand (∑ l, y l * y l)) * g j

/-- The same with the division by the root. -/
theorem rowNorm_eq (y g : Fin 512 → EReal) (j : Fin 512) : rowNorm y g j = Ideal.div (y j) (Ideal.sqrt (radicand (∑ l, y l * y l))) * g j := by
  unfold rowNorm
  rw [mul_rsqrt _ _ (radicand_pos _ (Finset.sum_nonneg fun l _ => square_nonneg (y l)))]

end Cert.Norm

end
-- ==== Proof.Block.lean ====
/- What one block computes and what the reference computes, each as the normalisation of one row, element by element. -/
module

public import proofs.«01_k».proof.Proof.Root
public import proofs.«01_k».proof.Proof.Gen.KernelIdeal.Skeleton
public import proofs.«01_k».proof.Proof.Gen.ReferenceIdeal
public import Idealize.ShloMosaic.Lib.Pointwise

@[expose] public section

set_option maxRecDepth 16384

noncomputable section

namespace Cert.Norm

open Idealize.ShloMosaic

section Kernel
open Cert.KernelIdeal Cert.KernelIdeal.Gen

/-- The partial sum adds the partial block and the residual. -/
theorem sum_apply (u : Vec Ideal S1x256x512 .f32) (v : Vec Ideal S256x512 .f32) (a : Fin 256) (b : Fin 512) :
    k0_pay1 u v (ix2 a b) = u (ix3 0 a b) + v (ix2 a b) := by
  pointwise [k0_pay1]

/-- One chunk adds what landed to the partial sum and normalises each row. -/
theorem chunk_apply (u : Vec Ideal S32x512 .f32) (v : Vec Ideal S1x32x512 .f32) (g : Vec Ideal S512 .f32) (a : Fin 32) (b : Fin 512) :
    k0_pay2 u v g (ix3 0 a b) = rowNorm (fun l => u (ix2 a l) + v (ix3 0 a l)) (fun l => g (ix1 l)) b := by
  pointwise [k0_pay2, rowNorm, radicand]

end Kernel

section Reference
open Cert.ReferenceIdeal Cert.ReferenceIdeal.Gen

/-- The reference's sum of the partial blocks and the residual. -/
def total2 (P : FVec Ideal S2x512x512 .f32) (r : FVec Ideal S512x512 .f32) : FVec Ideal S512x512 .f32 :=
  addf (Host.reduceAdd P (constant S_ .f32 0x00000000#32) reducesTo_S2x512x512_S512x512_d0 h_S_) r

theorem total2_apply (P : FVec Ideal S2x512x512 .f32) (r : FVec Ideal S512x512 .f32) (a b : Fin 512) :
    total2 P r (ix2 a b) = P (ix3 0 a b) + P (ix3 1 a b) + r (ix2 a b) := by
  pointwise [total2]
  rw [Fin.sum_univ_two]

/-- The reference's result. -/
def refOut (P : FVec Ideal S2x512x512 .f32) (r : FVec Ideal S512x512 .f32) (g : FVec Ideal S512 .f32) : FVec Ideal S512x512 .f32 :=
  mulf (Host.divf (total2 P r) (broadcastInDim S512x512 ![0, 1] bcast_S512x1_S512x512_0_1 (Host.sqrt (addf (Host.divf
      (broadcastInDim S512x1 ![0] bcast_S512_S512x1_0 (Host.reduceAdd (mulf (total2 P r) (total2 P r)) (constant S_ .f32 0x00000000#32) reducesTo_S512x512_S512_d1 h_S_))
      (broadcastInDim S512x1 ![] bcast_S_S512x1 (constant S_ .f32 0x44000000#32))) (broadcastInDim S512x1 ![] bcast_S_S512x1 (constant S_ .f32 0x358637BD#32))))))
    (broadcastInDim S512x512 ![0, 1] bcast_S1x512_S512x512_0_1 (broadcastInDim S1x512 ![1] bcast_S512_S1x512_1 g))

/-- Its rows are normalised rows of the sum. -/
theorem refOut_apply (P : FVec Ideal S2x512x512 .f32) (r : FVec Ideal S512x512 .f32) (g : FVec Ideal S512 .f32) (a b : Fin 512) :
    refOut P r g (ix2 a b) = rowNorm (fun l => total2 P r (ix2 a l)) (fun l => g (ix1 l)) b := by
  rw [rowNorm_eq]
  pointwise [refOut, radicand]

end Reference

end Cert.Norm

end
-- ==== Proof.Value.lean ====
/- The result's value: every device ends with the reference's result of the whole arrays. -/
module

public import proofs.«01_k».proof.Proof.Launch
public import proofs.«01_k».proof.Proof.Block
public import Idealize.ShloMosaic.Lib.Layout
public import Idealize.ShloMosaic.Lib.Pipeline.ValueKit

@[expose] public section

set_option maxRecDepth 16384

noncomputable section

namespace Cert.Norm

open Cert.KernelIdeal Cert.KernelIdeal.Gen
open Idealize.ShloMosaic Idealize.SL.Sem
open Idealize.ShloMosaic.TcCoe

section Arrays
variable {F : FTy → Type} [FloatOps F] (m : (ℓ : Loc nD τ sig) → Buf (Elt F) ℓ) (ρ : Dev nD → PrngReg)

/-! ## Every window is its whole array -/

theorem pIn_eq (c : Dev nD) : pIn m c = m ((c.tc : Thread nD τ).loc main_arg0) := by
  funext y
  exact congrArg (m ((c.tc : Thread nD τ).loc main_arg0)) (funext fun a => Fin.ext (win0_0.rect_emb_val_of_index_zero t0_0 a rfl y))
theorem rIn_eq (c : Dev nD) : rIn m c = m ((c.tc : Thread nD τ).loc main_arg1) := by
  funext y
  exact congrArg (m ((c.tc : Thread nD τ).loc main_arg1)) (funext fun a => Fin.ext (win0_1.rect_emb_val_of_index_zero t0_0 a rfl y))
theorem gIn_eq (c : Dev nD) : gIn m c = m ((c.tc : Thread nD τ).loc main_arg2) := by
  funext y
  exact congrArg (m ((c.tc : Thread nD τ).loc main_arg2)) (funext fun a => Fin.ext (win0_2.rect_emb_val_of_index_zero t0_0 a rfl y))

theorem final_out (c : Dev nD) : finalA m ρ c (3 : Fin 4) = out m c :=
  (dats m ρ 0 c).arrAt_eq_of_after_last (3 : Fin 4) t0_0 (by decide +kernel) _ fun j => rfl

end Arrays

/-! ## One device's half, at an element -/

section Half
variable (p : Dev nD → Vec Ideal S1x512x512 .f32) (r : Dev nD → Vec Ideal S512x512 .f32) (g : Dev nD → Vec Ideal S512 .f32)

theorem idx_pHalfR (c : Dev nD) (a : Fin 256) (b : Fin 512) :
    (pHalfR c).emb (ix3 0 a b) = (ix3 0 (halfRow c a) b : S1x512x512.Idx) := by
  funext d
  apply Fin.ext
  rw [Rect.emb_apply]
  show k0_off2 c d + _ = _
  rw [off2]
  match d with
  | ⟨0, _⟩ => rfl
  | ⟨1, _⟩ => show 256 * (c.val / 8) + 1 * a.val = 256 * (c.val / 8) + a.val; omega
  | ⟨2, _⟩ => show 0 + 1 * b.val = b.val; omega

theorem idx_rowsR (k : Fin 8) (a : Fin 32) (b : Fin 512) :
    (rowsR k).emb (ix2 a b) = (ix2 ⟨32 * k.val + a.val, by have := k.isLt; have := a.isLt; omega⟩ b : S256x512.Idx) := by
  funext d
  apply Fin.ext
  rw [Rect.emb_apply]
  match d with
  | ⟨0, _⟩ => show 32 * k.val + 1 * a.val = 32 * k.val + a.val; omega
  | ⟨1, _⟩ => show 0 + 1 * b.val = b.val; omega

/-- A row of the partial sum. -/
theorem sumOf_apply (c : Dev nD) (a : Fin 256) (b : Fin 512) :
    sumOf p r c (ix2 a b) = p c (ix3 0 (halfRow c a) b) + r c (ix2 (halfRow c a) b) := by
  unfold sumOf
  rw [sum_apply]
  show p c ((pHalfR c).emb (ix3 0 a b)) + r c ((halfR c).emb (ix2 a b)) = _
  rw [idx_pHalfR, emb_halfR]
  rfl

/-- An element of the normalised half: a normalised row of the two partial blocks and the residual. -/
theorem normed_apply (c : Dev nD) (k : Fin 8) (j : Fin 32) (b : Fin 512) :
    normed p r g c (ix3 k j b) = rowNorm (fun l => p c (ix3 0 (row c k j) l) + r c (ix2 (row c k j) l) + p (yNbr c) (ix3 0 (row c k j) l))
      (fun l => g c (ix1 l)) b := by
  have hg : gM.view.readAt (Elt Ideal) gR.toLoadRect (g c) = g c :=
    Memref.readAt_unit_zero (Elt Ideal) cc0_stg2_0 (funext fun a => by fin_cases a; rfl) _ _
  have hh : halfRow c ⟨32 * k.val + j.val, by have := k.isLt; have := j.isLt; omega⟩ = row c k j :=
    Fin.ext (by show 256 * (c.val / 8) + (32 * k.val + j.val) = 256 * (c.val / 8) + 32 * k.val + j.val; omega)
  unfold normed
  rw [hg]
  refine (chunk_apply _ _ _ j b).trans ?_
  refine congrArg (fun y => rowNorm y (fun l => g c (ix1 l)) b) (funext fun l => ?_)
  show sumOf p r c ((rowsR k).emb (ix2 j l)) + landed p c ((slotR k).emb (ix3 0 j l)) = _
  rw [idx_rowsR, sumOf_apply, emb_slotR, hh]
  rfl

end Half

/-! ## The whole -/

/-- The device that computes row `i` for device `c` computes it as its own half's row. -/
theorem row_source (c : Dev nD) (i : Fin 512) :
    row (source c i) ⟨i.val % 256 / 32, by omega⟩ ⟨i.val % 32, by omega⟩ = i := by
  have hi := i.isLt; have hc := half_lt c
  have hs : (source c i).val / 8 = i.val / 256 := by
    unfold source
    split
    · omega
    · rw [half_xNbr]; omega
  exact Fin.ext (by show 256 * ((source c i).val / 8) + 32 * (i.val % 256 / 32) + i.val % 32 = i.val; rw [hs]; omega)

/-- The block of the partial sums that device `c` holds. -/
theorem part_block (P : FVec Ideal Cert.ReferenceIdeal.S2x512x512 .f32) (c : Dev nD) (a b : Fin 512) :
    (Layout.blockN ⟨3, ![1, 512, 512]⟩ ⟨3, ![2, 512, 512]⟩ (Layout.meshBlock [2, 2, 4] ![[1], [], []] c) P : Vec Ideal S1x512x512 .f32) (ix3 0 a b)
      = P (ix3 (⟨c.val / 4 % 2, by omega⟩ : Fin 2) a b) := by
  rw [Layout.blockN_apply]
  refine congrArg P (funext fun d => Fin.ext ?_)
  rw [Layout.TilesN.idx_val]
  match d with
  | ⟨0, _⟩ =>
    show (c.val / 4 % 2 * 1 + 0) * 1 + 0 = c.val / 4 % 2
    omega
  | ⟨1, _⟩ => show 0 * 512 + a.val = a.val; omega
  | ⟨2, _⟩ => show 0 * 512 + b.val = b.val; omega

/-- The two partial blocks of a `y` pair, in either order. -/
theorem pair_sum (P : FVec Ideal Cert.ReferenceIdeal.S2x512x512 .f32) (c : Dev nD) (a b : Fin 512) (z : EReal) :
    P (ix3 (⟨c.val / 4 % 2, by omega⟩ : Fin 2) a b) + z + P (ix3 (⟨(yNbr c).val / 4 % 2, by omega⟩ : Fin 2) a b)
      = P (ix3 0 a b) + P (ix3 1 a b) + z := by
  have hp := part_yNbr c
  rcases Nat.mod_two_eq_zero_or_one (c.val / 4) with h | h
  · have e0 : (⟨c.val / 4 % 2, by omega⟩ : Fin 2) = 0 := Fin.ext h
    have e1 : (⟨(yNbr c).val / 4 % 2, by omega⟩ : Fin 2) = 1 := Fin.ext (by show (yNbr c).val / 4 % 2 = 1; omega)
    rw [e0, e1, add_right_comm]
  · have e0 : (⟨c.val / 4 % 2, by omega⟩ : Fin 2) = 1 := Fin.ext h
    have e1 : (⟨(yNbr c).val / 4 % 2, by omega⟩ : Fin 2) = 0 := Fin.ext (by show (yNbr c).val / 4 % 2 = 0; omega)
    rw [e0, e1, add_right_comm, add_comm (P (ix3 1 a b))]

/-- On every device the result is the reference's. -/
theorem result_eq (P : FVec Ideal Cert.ReferenceIdeal.S2x512x512 .f32) (R : FVec Ideal Cert.ReferenceIdeal.S512x512 .f32)
    (g : FVec Ideal Cert.ReferenceIdeal.S512 .f32) (c : Dev nD) :
    result (F := Ideal) (fun d => Layout.blockN ⟨3, ![1, 512, 512]⟩ ⟨3, ![2, 512, 512]⟩ (Layout.meshBlock [2, 2, 4] ![[1], [], []] d) P)
      (fun _ => R) (fun _ => g) c = (refOut P R g : Vec Ideal S512x512 .f32) := by
  funext i
  obtain ⟨a, b, rfl⟩ : ∃ (a b : Fin 512), i = ix2 a b := ⟨i 0, i 1, by funext d; match d with | ⟨0, _⟩ => rfl | ⟨1, _⟩ => rfl⟩
  rw [refOut_apply]
  refine (normed_apply _ _ _ (source c a) ⟨a.val % 256 / 32, by omega⟩ ⟨a.val % 32, by omega⟩ b).trans ?_
  rw [row_source]
  refine congrArg (fun y => rowNorm y (fun l => g (ix1 l)) b) (funext fun l => ?_)
  rw [total2_apply, part_block, part_block, pair_sum]

end Cert.Norm

end
-- ==== Proof.lean ====
/- The certificate: the three frames, the ideal text, and that every device ends with the reference's result. The run is
   in Proof/Launch.lean, the value in Proof/Value.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The run, for any float values: it leaves its arguments and leaves every semaphore at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2))
      ∧ r.2.sem = fun _ => 0 :=
  (θ_run Cert.KernelIdeal.defs _ _).mono
    (fun _ h => ⟨fun c => ⟨(h.1 c (0 : Fin 4)).trans (Cert.Norm.final_p m ρ c), (h.1 c (1 : Fin 4)).trans (Cert.Norm.final_r m ρ c),
      (h.1 c (2 : Fin 4)).trans (Cert.Norm.final_g m ρ c)⟩, h.2⟩)
    (Cert.Norm.run_main m ρ)

/-! The two texts of the kernel have the same bodies, so that the run at the machine's floats is the kernel's. -/

theorem bodies_eq {F : FTy → Type} [FloatOps F] : Cert.Kernel.defs₀ (F := F) = Cert.KernelIdeal.defs₀ (F := F) :=
  congrArg Defs.onTc (funext fun l => match l with | 0 => rfl | ⟨_ + 1, h⟩ => absurd h (Nat.not_lt.2 (Nat.le_add_left _ _)))

theorem defs_eq {F : FTy → Type} [FloatOps F] : Cert.Kernel.defs (F := F) = Cert.KernelIdeal.defs (F := F) :=
  congrArg (Pipeline.defs Cert.Kernel.pcfgs) bodies_eq

theorem frame_kernel : Cert.quiescent_Kernel := fun m ρ _ => by
  rw [defs_eq]
  exact frame (F := Bits) m ρ

theorem frame_kernelIdeal : Cert.quiescent_KernelIdeal := fun m ρ _ => frame (F := Ideal) m ρ

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What every device ends with, from arguments laid out as the claim says. -/
theorem out_eq (m : (ℓ : Loc Cert.KernelIdeal.nD Cert.KernelIdeal.τ Cert.KernelIdeal.sig) → Buf (Elt Ideal) ℓ)
    (P : FVec Ideal Cert.ReferenceIdeal.S2x512x512 .f32) (R : FVec Ideal Cert.ReferenceIdeal.S512x512 .f32)
    (g : FVec Ideal Cert.ReferenceIdeal.S512 .f32)
    (hP : ∀ c : Dev Cert.KernelIdeal.nD, m (c.tc.loc Cert.KernelIdeal.main_arg0)
      = Layout.blockN ⟨3, ![1, 512, 512]⟩ ⟨3, ![2, 512, 512]⟩ (Layout.meshBlock [2, 2, 4] ![[1], [], []] c) P)
    (hR : ∀ c : Dev Cert.KernelIdeal.nD, m (c.tc.loc Cert.KernelIdeal.main_arg1) = R)
    (hg : ∀ c : Dev Cert.KernelIdeal.nD, m (c.tc.loc Cert.KernelIdeal.main_arg2) = g) (c : Dev Cert.KernelIdeal.nD) :
    Cert.Norm.out m c = Cert.Norm.refOut P R g := by
  unfold Cert.Norm.out
  rw [show Cert.Norm.pIn m = _ from funext fun d => (Cert.Norm.pIn_eq m d).trans (hP d),
    show Cert.Norm.rIn m = _ from funext fun d => (Cert.Norm.rIn_eq m d).trans (hR d),
    show Cert.Norm.gIn m = _ from funext fun d => (Cert.Norm.gIn_eq m d).trans (hg d)]
  exact Cert.Norm.result_eq P R g c

theorem algebraic : Cert.algebraic_KernelIdeal_ReferenceIdeal := fun m ρ m' ρ' _ hin =>
  ⟨Cert.Norm.refOut (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2)),
    (θ_run Cert.KernelIdeal.defs _ _).mono
      (fun _ h c => ⟨(h.1 c 3).trans ((Cert.Norm.final_out m ρ c).trans
          (out_eq m _ _ _ (fun d => (hin d).1) (fun d => (hin d).2.1) (fun d => (hin d).2.2) c)),
        (h.1 c 0).trans (Cert.Norm.final_p m ρ c), (h.1 c 1).trans (Cert.Norm.final_r m ρ c),
        (h.1 c 2).trans (Cert.Norm.final_g m ρ c)⟩)
      (Cert.Norm.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
